-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_sqrt_d" .f32 0x3DB504F3#32 (((Real.sqrt 128)⁻¹ : ℝ) : EReal)

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![4, 4096, 8, 128]⟩ ⟨4, ![4, 8192, 8, 128]⟩ (Layout.meshBlock [2, 2, 4] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![4, 4096, 8, 128]⟩ ⟨4, ![4, 8192, 8, 128]⟩ (Layout.meshBlock [2, 2, 4] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S4x32x8x128 : Shape := ⟨4, ![4, 32, 8, 128]⟩
abbrev S4x4096x8x128 : Shape := ⟨4, ![4, 4096, 8, 128]⟩
abbrev S_ : Shape := ⟨0, ![]⟩

class Facts : Prop where
  bcast_S_S4x32x8x128 : S_.BroadcastsInDim S4x32x8x128 (![] : Fin 0 → Fin S4x32x8x128.rank)
  bcast_S_S4x4096x8x128 : S_.BroadcastsInDim S4x4096x8x128 (![] : Fin 0 → Fin S4x4096x8x128.rank)

variable [Facts]

def fn {F : FTy → Type} [FloatOps F] (main_arg0 : FVec F S4x32x8x128 .f32) (main_arg1 : FVec F S4x4096x8x128 .f32) (main_arg2 : FVec F S4x4096x8x128 .f32) : IVec S4x32x8x128 1 × IVec S4x4096x8x128 1 × IVec S4x4096x8x128 1 :=
  let main_v0 : FVec F S4x32x8x128 .f32 := Host.absf main_arg0
  let main_cst : FVec F S_ .f32 := constant S_ .f32 0x7F800000#32
  let main_v1 : FVec F S4x32x8x128 .f32 := broadcastInDim S4x32x8x128 ![] bcast_S_S4x32x8x128 main_cst
  let main_v2 : IVec S4x32x8x128 1 := cmpf .olt main_v0 main_v1
  let main_v3 : FVec F S4x4096x8x128 .f32 := Host.absf main_arg1
  let main_cst_0 : FVec F S_ .f32 := constant S_ .f32 0x7F800000#32
  let main_v4 : FVec F S4x4096x8x128 .f32 := broadcastInDim S4x4096x8x128 ![] bcast_S_S4x4096x8x128 main_cst_0
  let main_v5 : IVec S4x4096x8x128 1 := cmpf .olt main_v3 main_v4
  let main_v6 : FVec F S4x4096x8x128 .f32 := Host.absf main_arg2
  let main_cst_1 : FVec F S_ .f32 := constant S_ .f32 0x7F800000#32
  let main_v7 : FVec F S4x4096x8x128 .f32 := broadcastInDim S4x4096x8x128 ![] bcast_S_S4x4096x8x128 main_cst_1
  let main_v8 : IVec S4x4096x8x128 1 := cmpf .olt main_v6 main_v7
  (main_v2, main_v5, main_v8)
-- ==== Pre_finite_inputs_ReferenceIdeal.lean ====
abbrev S4x32x8x128 : Shape := ⟨4, ![4, 32, 8, 128]⟩
abbrev S4x8192x8x128 : Shape := ⟨4, ![4, 8192, 8, 128]⟩
abbrev S_ : Shape := ⟨0, ![]⟩

class Facts : Prop where
  bcast_S_S4x32x8x128 : S_.BroadcastsInDim S4x32x8x128 (![] : Fin 0 → Fin S4x32x8x128.rank)
  bcast_S_S4x8192x8x128 : S_.BroadcastsInDim S4x8192x8x128 (![] : Fin 0 → Fin S4x8192x8x128.rank)

variable [Facts]

def fn {F : FTy → Type} [FloatOps F] (main_arg0 : FVec F S4x32x8x128 .f32) (main_arg1 : FVec F S4x8192x8x128 .f32) (main_arg2 : FVec F S4x8192x8x128 .f32) : IVec S4x32x8x128 1 × IVec S4x8192x8x128 1 × IVec S4x8192x8x128 1 :=
  let main_v0 : FVec F S4x32x8x128 .f32 := Host.absf main_arg0
  let main_cst : FVec F S_ .f32 := constant S_ .f32 0x7F800000#32
  let main_v1 : FVec F S4x32x8x128 .f32 := broadcastInDim S4x32x8x128 ![] bcast_S_S4x32x8x128 main_cst
  let main_v2 : IVec S4x32x8x128 1 := cmpf .olt main_v0 main_v1
  let main_v3 : FVec F S4x8192x8x128 .f32 := Host.absf main_arg1
  let main_cst_0 : FVec F S_ .f32 := constant S_ .f32 0x7F800000#32
  let main_v4 : FVec F S4x8192x8x128 .f32 := broadcastInDim S4x8192x8x128 ![] bcast_S_S4x8192x8x128 main_cst_0
  let main_v5 : IVec S4x8192x8x128 1 := cmpf .olt main_v3 main_v4
  let main_v6 : FVec F S4x8192x8x128 .f32 := Host.absf main_arg2
  let main_cst_1 : FVec F S_ .f32 := constant S_ .f32 0x7F800000#32
  let main_v7 : FVec F S4x8192x8x128 .f32 := broadcastInDim S4x8192x8x128 ![] bcast_S_S4x8192x8x128 main_cst_1
  let main_v8 : IVec S4x8192x8x128 1 := cmpf .olt main_v6 main_v7
  (main_v2, main_v5, main_v8)
-- ==== Kernel.lean ====
abbrev S4x32x8x128 : Shape := ⟨4, ![4, 32, 8, 128]⟩
abbrev S4x4096x8x128 : Shape := ⟨4, ![4, 4096, 8, 128]⟩
abbrev S4x8x32x128 : Shape := ⟨4, ![4, 8, 32, 128]⟩
abbrev S32x32x128 : Shape := ⟨3, ![32, 32, 128]⟩
abbrev S32x512x128 : Shape := ⟨3, ![32, 512, 128]⟩
abbrev S32x128 : Shape := ⟨2, ![32, 128]⟩
abbrev S4x32x32x128 : Shape := ⟨4, ![4, 32, 32, 128]⟩
abbrev S4x32x128 : Shape := ⟨3, ![4, 32, 128]⟩
abbrev S32 : Shape := ⟨1, ![32]⟩
abbrev S5 : Shape := ⟨1, ![5]⟩
abbrev S4 : Shape := ⟨1, ![4]⟩
abbrev S1 : Shape := ⟨1, ![1]⟩
abbrev S_ : Shape := ⟨0, ![]⟩
abbrev S1x512x128 : Shape := ⟨3, ![1, 512, 128]⟩
abbrev S512x128 : Shape := ⟨2, ![512, 128]⟩
abbrev S1x512x1x128 : Shape := ⟨4, ![1, 512, 1, 128]⟩
abbrev S1x32x128 : Shape := ⟨3, ![1, 32, 128]⟩
abbrev S32x512 : Shape := ⟨2, ![32, 512]⟩
abbrev S32x1 : Shape := ⟨2, ![32, 1]⟩
abbrev S16x32x128 : Shape := ⟨3, ![16, 32, 128]⟩
abbrev S1x16x32x128 : Shape := ⟨4, ![1, 16, 32, 128]⟩
abbrev S32x32 : Shape := ⟨2, ![32, 32]⟩
abbrev S32x32x1 : Shape := ⟨3, ![32, 32, 1]⟩
abbrev S1x32x32x128 : Shape := ⟨4, ![1, 32, 32, 128]⟩

abbrev nBuf : Space → Nat
  | .hbm => 8
  | .vmem => 9
  | .smem => 0
  | _ => 0

abbrev bufTy : (tb : Table) → Fin (tcTables nBuf tb) → BufTy
  | .hbm, ⟨0, _⟩ => ⟨S4x32x8x128, .f32⟩
  | .hbm, ⟨1, _⟩ => ⟨S4x4096x8x128, .f32⟩
  | .hbm, ⟨2, _⟩ => ⟨S4x4096x8x128, .f32⟩
  | .hbm, ⟨3, _⟩ => ⟨S4x8x32x128, .f32⟩
  | .hbm, ⟨4, _⟩ => ⟨S32x32x128, .f32⟩
  | .hbm, ⟨5, _⟩ => ⟨S32x32x128, .f32⟩
  | .hbm, ⟨6, _⟩ => ⟨S4x8x32x128, .f32⟩
  | .hbm, ⟨7, _⟩ => ⟨S4x32x8x128, .f32⟩
  | .local _ .vmem, ⟨0, _⟩ => ⟨S32x32x128, .f32⟩
  | .local _ .vmem, ⟨1, _⟩ => ⟨S32x32x128, .f32⟩
  | .local _ .vmem, ⟨2, _⟩ => ⟨S32x512x128, .f32⟩
  | .local _ .vmem, ⟨3, _⟩ => ⟨S32x512x128, .f32⟩
  | .local _ .vmem, ⟨4, _⟩ => ⟨S32x32x128, .f32⟩
  | .local _ .vmem, ⟨5, _⟩ => ⟨S32x128, .f32⟩
  | .local _ .vmem, ⟨6, _⟩ => ⟨S32x32x128, .bf16⟩
  | .local _ .vmem, ⟨7, _⟩ => ⟨S4x32x32x128, .bf16⟩
  | .local _ .vmem, ⟨8, _⟩ => ⟨S4x32x128, .f32⟩
  | _, _ => ⟨S4x32x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 2 → Bool
  | ⟨0, _⟩ => false
  | ⟨1, _⟩ => true
  | _ => false

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  (ofTc nBuf bufTy 2 84 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := ⟨1, ![1], ![false]⟩

def k0_off1 (d0 : Dev nD) : Fin 4 → Nat :=
  let c0_i32 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let c0_i32_7 : BitVec 32 := 0#32
  let c0_i32_12 : BitVec 32 := 0#32
  ![0, v11.toNat, 0, 0]
def k0_off2 (d0 : Dev nD) : Fin 4 → Nat :=
  let c0_i32_20 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let c1_i32_21 : BitVec 32 := 1#32
  let c0_i32_26 : BitVec 32 := 0#32
  ![0, v11.toNat, 1, 0]
def k0_off3 (d0 : Dev nD) : Fin 4 → Nat :=
  let c0_i32_34 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let c2_i32_35 : BitVec 32 := 2#32
  let c0_i32_40 : BitVec 32 := 0#32
  ![0, v11.toNat, 2, 0]
def k0_off4 (d0 : Dev nD) : Fin 4 → Nat :=
  let c0_i32_48 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let c3_i32 : BitVec 32 := 3#32
  let c0_i32_53 : BitVec 32 := 0#32
  ![0, v11.toNat, 3, 0]
def k0_off5 (d0 : Dev nD) : Fin 4 → Nat :=
  let c0_i32_61 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let c4_i32_62 : BitVec 32 := 4#32
  let c0_i32_67 : BitVec 32 := 0#32
  ![0, v11.toNat, 4, 0]
def k0_off6 (d0 : Dev nD) : Fin 4 → Nat :=
  let c0_i32_75 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let c5_i32 : BitVec 32 := 5#32
  let c0_i32_80 : BitVec 32 := 0#32
  ![0, v11.toNat, 5, 0]
def k0_off7 (d0 : Dev nD) : Fin 4 → Nat :=
  let c0_i32_88 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let c6_i32 : BitVec 32 := 6#32
  let c0_i32_93 : BitVec 32 := 0#32
  ![0, v11.toNat, 6, 0]
def k0_off8 (d0 : Dev nD) : Fin 4 → Nat :=
  let c0_i32_101 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let c7_i32 : BitVec 32 := 7#32
  let c0_i32_106 : BitVec 32 := 0#32
  ![0, v11.toNat, 7, 0]
def k0_off9 (d0 : Dev nD) : Fin 4 → Nat :=
  let c1_i32_114 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let c0_i32_115 : BitVec 32 := 0#32
  let c0_i32_120 : BitVec 32 := 0#32
  ![1, v11.toNat, 0, 0]
def k0_off10 (d0 : Dev nD) : Fin 4 → Nat :=
  let c1_i32_128 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let c1_i32_129 : BitVec 32 := 1#32
  let c0_i32_133 : BitVec 32 := 0#32
  ![1, v11.toNat, 1, 0]
def k0_off11 (d0 : Dev nD) : Fin 4 → Nat :=
  let c1_i32_141 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let c2_i32_142 : BitVec 32 := 2#32
  let c0_i32_146 : BitVec 32 := 0#32
  ![1, v11.toNat, 2, 0]
def k0_off12 (d0 : Dev nD) : Fin 4 → Nat :=
  let c1_i32_154 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let c3_i32_155 : BitVec 32 := 3#32
  let c0_i32_159 : BitVec 32 := 0#32
  ![1, v11.toNat, 3, 0]
def k0_off13 (d0 : Dev nD) : Fin 4 → Nat :=
  let c1_i32_167 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let c4_i32_168 : BitVec 32 := 4#32
  let c0_i32_172 : BitVec 32 := 0#32
  ![1, v11.toNat, 4, 0]
def k0_off14 (d0 : Dev nD) : Fin 4 → Nat :=
  let c1_i32_180 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let c5_i32_181 : BitVec 32 := 5#32
  let c0_i32_185 : BitVec 32 := 0#32
  ![1, v11.toNat, 5, 0]
def k0_off15 (d0 : Dev nD) : Fin 4 → Nat :=
  let c1_i32_193 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let c6_i32_194 : BitVec 32 := 6#32
  let c0_i32_198 : BitVec 32 := 0#32
  ![1, v11.toNat, 6, 0]
def k0_off16 (d0 : Dev nD) : Fin 4 → Nat :=
  let c1_i32_206 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let c7_i32_207 : BitVec 32 := 7#32
  let c0_i32_211 : BitVec 32 := 0#32
  ![1, v11.toNat, 7, 0]
def k0_off17 (d0 : Dev nD) : Fin 4 → Nat :=
  let c2_i32_219 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let c0_i32_220 : BitVec 32 := 0#32
  let c0_i32_224 : BitVec 32 := 0#32
  ![2, v11.toNat, 0, 0]
def k0_off18 (d0 : Dev nD) : Fin 4 → Nat :=
  let c2_i32_232 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let c1_i32_233 : BitVec 32 := 1#32
  let c0_i32_237 : BitVec 32 := 0#32
  ![2, v11.toNat, 1, 0]
def k0_off19 (d0 : Dev nD) : Fin 4 → Nat :=
  let c2_i32_245 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let c2_i32_246 : BitVec 32 := 2#32
  let c0_i32_250 : BitVec 32 := 0#32
  ![2, v11.toNat, 2, 0]
def k0_off20 (d0 : Dev nD) : Fin 4 → Nat :=
  let c2_i32_258 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let c3_i32_259 : BitVec 32 := 3#32
  let c0_i32_263 : BitVec 32 := 0#32
  ![2, v11.toNat, 3, 0]
def k0_off21 (d0 : Dev nD) : Fin 4 → Nat :=
  let c2_i32_271 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let c4_i32_272 : BitVec 32 := 4#32
  let c0_i32_276 : BitVec 32 := 0#32
  ![2, v11.toNat, 4, 0]
def k0_off22 (d0 : Dev nD) : Fin 4 → Nat :=
  let c2_i32_284 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let c5_i32_285 : BitVec 32 := 5#32
  let c0_i32_289 : BitVec 32 := 0#32
  ![2, v11.toNat, 5, 0]
def k0_off23 (d0 : Dev nD) : Fin 4 → Nat :=
  let c2_i32_297 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let c6_i32_298 : BitVec 32 := 6#32
  let c0_i32_302 : BitVec 32 := 0#32
  ![2, v11.toNat, 6, 0]
def k0_off24 (d0 : Dev nD) : Fin 4 → Nat :=
  let c2_i32_310 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let c7_i32_311 : BitVec 32 := 7#32
  let c0_i32_315 : BitVec 32 := 0#32
  ![2, v11.toNat, 7, 0]
def k0_off25 (d0 : Dev nD) : Fin 4 → Nat :=
  let c3_i32_323 : BitVec 32 := 3#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let c0_i32_324 : BitVec 32 := 0#32
  let c0_i32_328 : BitVec 32 := 0#32
  ![3, v11.toNat, 0, 0]
def k0_off26 (d0 : Dev nD) : Fin 4 → Nat :=
  let c3_i32_336 : BitVec 32 := 3#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let c1_i32_337 : BitVec 32 := 1#32
  let c0_i32_341 : BitVec 32 := 0#32
  ![3, v11.toNat, 1, 0]
def k0_off27 (d0 : Dev nD) : Fin 4 → Nat :=
  let c3_i32_349 : BitVec 32 := 3#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let c2_i32_350 : BitVec 32 := 2#32
  let c0_i32_354 : BitVec 32 := 0#32
  ![3, v11.toNat, 2, 0]
def k0_off28 (d0 : Dev nD) : Fin 4 → Nat :=
  let c3_i32_362 : BitVec 32 := 3#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let c3_i32_363 : BitVec 32 := 3#32
  let c0_i32_367 : BitVec 32 := 0#32
  ![3, v11.toNat, 3, 0]
def k0_off29 (d0 : Dev nD) : Fin 4 → Nat :=
  let c3_i32_375 : BitVec 32 := 3#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let c4_i32_376 : BitVec 32 := 4#32
  let c0_i32_380 : BitVec 32 := 0#32
  ![3, v11.toNat, 4, 0]
def k0_off30 (d0 : Dev nD) : Fin 4 → Nat :=
  let c3_i32_388 : BitVec 32 := 3#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let c5_i32_389 : BitVec 32 := 5#32
  let c0_i32_393 : BitVec 32 := 0#32
  ![3, v11.toNat, 5, 0]
def k0_off31 (d0 : Dev nD) : Fin 4 → Nat :=
  let c3_i32_401 : BitVec 32 := 3#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let c6_i32_402 : BitVec 32 := 6#32
  let c0_i32_406 : BitVec 32 := 0#32
  ![3, v11.toNat, 6, 0]
def k0_off32 (d0 : Dev nD) : Fin 4 → Nat :=
  let c3_i32_414 : BitVec 32 := 3#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c512_i32 : BitVec 32 := 512#32
  let v11 : BitVec 32 := Scalar.muli v10 c512_i32
  let c7_i32_415 : BitVec 32 := 7#32
  let c0_i32_419 : BitVec 32 := 0#32
  ![3, v11.toNat, 7, 0]
def k0_dev1 (d0 : Dev nD) : Nat :=
  let c0_i32_949 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_948 : BitVec 32 := 8#32
  let v1114 : BitVec 32 := Scalar.muli v2 c8_i32_948
  let v1115 : BitVec 32 := Scalar.addi c0_i32_949 v1114
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_950 : BitVec 32 := 4#32
  let v1116 : BitVec 32 := Scalar.muli v5 c4_i32_950
  let v1117 : BitVec 32 := Scalar.addi v1115 v1116
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v12 : BitVec 32 := Scalar.xori v8 c2_i32_3
  let c1_i32_951 : BitVec 32 := 1#32
  let v1118 : BitVec 32 := Scalar.muli v12 c1_i32_951
  let v1119 : BitVec 32 := Scalar.addi v1117 v1118
  v1119.toNat
def k0_dev2 (d0 : Dev nD) : Nat :=
  let c0_i32_954 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v13 : BitVec 32 := Scalar.subi c1_i32_4 v2
  let c8_i32_953 : BitVec 32 := 8#32
  let v1120 : BitVec 32 := Scalar.muli v13 c8_i32_953
  let v1121 : BitVec 32 := Scalar.addi c0_i32_954 v1120
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_955 : BitVec 32 := 4#32
  let v1122 : BitVec 32 := Scalar.muli v5 c4_i32_955
  let v1123 : BitVec 32 := Scalar.addi v1121 v1122
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_956 : BitVec 32 := 1#32
  let v1124 : BitVec 32 := Scalar.muli v8 c1_i32_956
  let v1125 : BitVec 32 := Scalar.addi v1123 v1124
  v1125.toNat
def k0_dev3 (d0 : Dev nD) : Nat :=
  let c0_i32_959 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_958 : BitVec 32 := 8#32
  let v1126 : BitVec 32 := Scalar.muli v2 c8_i32_958
  let v1127 : BitVec 32 := Scalar.addi c0_i32_959 v1126
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 32 := Scalar.subi c1_i32_5 v5
  let c4_i32_960 : BitVec 32 := 4#32
  let v1128 : BitVec 32 := Scalar.muli v14 c4_i32_960
  let v1129 : BitVec 32 := Scalar.addi v1127 v1128
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_961 : BitVec 32 := 1#32
  let v1130 : BitVec 32 := Scalar.muli v8 c1_i32_961
  let v1131 : BitVec 32 := Scalar.addi v1129 v1130
  v1131.toNat
def k0_dev4 (d0 : Dev nD) : Nat :=
  let c0_i32_964 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_963 : BitVec 32 := 8#32
  let v1132 : BitVec 32 := Scalar.muli v2 c8_i32_963
  let v1133 : BitVec 32 := Scalar.addi c0_i32_964 v1132
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_965 : BitVec 32 := 4#32
  let v1134 : BitVec 32 := Scalar.muli v5 c4_i32_965
  let v1135 : BitVec 32 := Scalar.addi v1133 v1134
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.xori v8 c1_i32_6
  let c1_i32_966 : BitVec 32 := 1#32
  let v1136 : BitVec 32 := Scalar.muli v15 c1_i32_966
  let v1137 : BitVec 32 := Scalar.addi v1135 v1136
  v1137.toNat
def k0_dev5 (d0 : Dev nD) : Nat :=
  let c0_i32_972 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_971 : BitVec 32 := 8#32
  let v1138 : BitVec 32 := Scalar.muli v2 c8_i32_971
  let v1139 : BitVec 32 := Scalar.addi c0_i32_972 v1138
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_973 : BitVec 32 := 4#32
  let v1140 : BitVec 32 := Scalar.muli v5 c4_i32_973
  let v1141 : BitVec 32 := Scalar.addi v1139 v1140
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v12 : BitVec 32 := Scalar.xori v8 c2_i32_3
  let c1_i32_974 : BitVec 32 := 1#32
  let v1142 : BitVec 32 := Scalar.muli v12 c1_i32_974
  let v1143 : BitVec 32 := Scalar.addi v1141 v1142
  v1143.toNat
def k0_dev6 (d0 : Dev nD) : Nat :=
  let c0_i32_1503 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1502 : BitVec 32 := 8#32
  let v1860 : BitVec 32 := Scalar.muli v2 c8_i32_1502
  let v1861 : BitVec 32 := Scalar.addi c0_i32_1503 v1860
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1504 : BitVec 32 := 4#32
  let v1862 : BitVec 32 := Scalar.muli v5 c4_i32_1504
  let v1863 : BitVec 32 := Scalar.addi v1861 v1862
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v12 : BitVec 32 := Scalar.xori v8 c2_i32_3
  let c1_i32_1505 : BitVec 32 := 1#32
  let v1864 : BitVec 32 := Scalar.muli v12 c1_i32_1505
  let v1865 : BitVec 32 := Scalar.addi v1863 v1864
  v1865.toNat
def k0_dev7 (d0 : Dev nD) : Nat :=
  let c0_i32_1516 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1515 : BitVec 32 := 8#32
  let v1873 : BitVec 32 := Scalar.muli v2 c8_i32_1515
  let v1874 : BitVec 32 := Scalar.addi c0_i32_1516 v1873
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1517 : BitVec 32 := 4#32
  let v1875 : BitVec 32 := Scalar.muli v5 c4_i32_1517
  let v1876 : BitVec 32 := Scalar.addi v1874 v1875
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v12 : BitVec 32 := Scalar.xori v8 c2_i32_3
  let c1_i32_1518 : BitVec 32 := 1#32
  let v1877 : BitVec 32 := Scalar.muli v12 c1_i32_1518
  let v1878 : BitVec 32 := Scalar.addi v1876 v1877
  v1878.toNat
def k0_dev8 (d0 : Dev nD) : Nat :=
  let c0_i32_1621 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v13 : BitVec 32 := Scalar.subi c1_i32_4 v2
  let c8_i32_1620 : BitVec 32 := 8#32
  let v1988 : BitVec 32 := Scalar.muli v13 c8_i32_1620
  let v1989 : BitVec 32 := Scalar.addi c0_i32_1621 v1988
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1622 : BitVec 32 := 4#32
  let v1990 : BitVec 32 := Scalar.muli v5 c4_i32_1622
  let v1991 : BitVec 32 := Scalar.addi v1989 v1990
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1623 : BitVec 32 := 1#32
  let v1992 : BitVec 32 := Scalar.muli v8 c1_i32_1623
  let v1993 : BitVec 32 := Scalar.addi v1991 v1992
  v1993.toNat
def k0_dev9 (d0 : Dev nD) : Nat :=
  let c0_i32_1634 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v13 : BitVec 32 := Scalar.subi c1_i32_4 v2
  let c8_i32_1633 : BitVec 32 := 8#32
  let v2001 : BitVec 32 := Scalar.muli v13 c8_i32_1633
  let v2002 : BitVec 32 := Scalar.addi c0_i32_1634 v2001
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1635 : BitVec 32 := 4#32
  let v2003 : BitVec 32 := Scalar.muli v5 c4_i32_1635
  let v2004 : BitVec 32 := Scalar.addi v2002 v2003
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1636 : BitVec 32 := 1#32
  let v2005 : BitVec 32 := Scalar.muli v8 c1_i32_1636
  let v2006 : BitVec 32 := Scalar.addi v2004 v2005
  v2006.toNat
def k0_dev10 (d0 : Dev nD) : Nat :=
  let c0_i32_1706 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1705 : BitVec 32 := 8#32
  let v2083 : BitVec 32 := Scalar.muli v2 c8_i32_1705
  let v2084 : BitVec 32 := Scalar.addi c0_i32_1706 v2083
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 32 := Scalar.subi c1_i32_5 v5
  let c4_i32_1707 : BitVec 32 := 4#32
  let v2085 : BitVec 32 := Scalar.muli v14 c4_i32_1707
  let v2086 : BitVec 32 := Scalar.addi v2084 v2085
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1708 : BitVec 32 := 1#32
  let v2087 : BitVec 32 := Scalar.muli v8 c1_i32_1708
  let v2088 : BitVec 32 := Scalar.addi v2086 v2087
  v2088.toNat
def k0_dev11 (d0 : Dev nD) : Nat :=
  let c0_i32_1719 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1718 : BitVec 32 := 8#32
  let v2096 : BitVec 32 := Scalar.muli v2 c8_i32_1718
  let v2097 : BitVec 32 := Scalar.addi c0_i32_1719 v2096
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 32 := Scalar.subi c1_i32_5 v5
  let c4_i32_1720 : BitVec 32 := 4#32
  let v2098 : BitVec 32 := Scalar.muli v14 c4_i32_1720
  let v2099 : BitVec 32 := Scalar.addi v2097 v2098
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1721 : BitVec 32 := 1#32
  let v2100 : BitVec 32 := Scalar.muli v8 c1_i32_1721
  let v2101 : BitVec 32 := Scalar.addi v2099 v2100
  v2101.toNat
def k0_dev12 (d0 : Dev nD) : Nat :=
  let c0_i32_1791 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1790 : BitVec 32 := 8#32
  let v2178 : BitVec 32 := Scalar.muli v2 c8_i32_1790
  let v2179 : BitVec 32 := Scalar.addi c0_i32_1791 v2178
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1792 : BitVec 32 := 4#32
  let v2180 : BitVec 32 := Scalar.muli v5 c4_i32_1792
  let v2181 : BitVec 32 := Scalar.addi v2179 v2180
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.xori v8 c1_i32_6
  let c1_i32_1793 : BitVec 32 := 1#32
  let v2182 : BitVec 32 := Scalar.muli v15 c1_i32_1793
  let v2183 : BitVec 32 := Scalar.addi v2181 v2182
  v2183.toNat
def k0_dev13 (d0 : Dev nD) : Nat :=
  let c0_i32_1804 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1803 : BitVec 32 := 8#32
  let v2191 : BitVec 32 := Scalar.muli v2 c8_i32_1803
  let v2192 : BitVec 32 := Scalar.addi c0_i32_1804 v2191
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1805 : BitVec 32 := 4#32
  let v2193 : BitVec 32 := Scalar.muli v5 c4_i32_1805
  let v2194 : BitVec 32 := Scalar.addi v2192 v2193
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.xori v8 c1_i32_6
  let c1_i32_1806 : BitVec 32 := 1#32
  let v2195 : BitVec 32 := Scalar.muli v15 c1_i32_1806
  let v2196 : BitVec 32 := Scalar.addi v2194 v2195
  v2196.toNat
def k0_dev14 (d0 : Dev nD) : Nat :=
  let c0_i32_1874_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1873_r0 : BitVec 32 := 8#32
  let v2271_r0 : BitVec 32 := Scalar.muli v2 c8_i32_1873_r0
  let v2272_r0 : BitVec 32 := Scalar.addi c0_i32_1874_r0 v2271_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1875_r0 : BitVec 32 := 4#32
  let v2273_r0 : BitVec 32 := Scalar.muli v5 c4_i32_1875_r0
  let v2274_r0 : BitVec 32 := Scalar.addi v2272_r0 v2273_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3 : BitVec 32 := 2#32
  let v12 : BitVec 32 := Scalar.xori v8 c2_i32_3
  let c1_i32_1876_r0 : BitVec 32 := 1#32
  let v2275_r0 : BitVec 32 := Scalar.muli v12 c1_i32_1876_r0
  let v2276_r0 : BitVec 32 := Scalar.addi v2274_r0 v2275_r0
  v2276_r0.toNat
def k0_dev15 (d0 : Dev nD) : Nat :=
  let c0_i32_1879_r0 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v13 : BitVec 32 := Scalar.subi c1_i32_4 v2
  let c8_i32_1878_r0 : BitVec 32 := 8#32
  let v2277_r0 : BitVec 32 := Scalar.muli v13 c8_i32_1878_r0
  let v2278_r0 : BitVec 32 := Scalar.addi c0_i32_1879_r0 v2277_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1880_r0 : BitVec 32 := 4#32
  let v2279_r0 : BitVec 32 := Scalar.muli v5 c4_i32_1880_r0
  let v2280_r0 : BitVec 32 := Scalar.addi v2278_r0 v2279_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1881_r0 : BitVec 32 := 1#32
  let v2281_r0 : BitVec 32 := Scalar.muli v8 c1_i32_1881_r0
  let v2282_r0 : BitVec 32 := Scalar.addi v2280_r0 v2281_r0
  v2282_r0.toNat
def k0_dev16 (d0 : Dev nD) : Nat :=
  let c0_i32_1884_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1883_r0 : BitVec 32 := 8#32
  let v2283_r0 : BitVec 32 := Scalar.muli v2 c8_i32_1883_r0
  let v2284_r0 : BitVec 32 := Scalar.addi c0_i32_1884_r0 v2283_r0
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v14 : BitVec 32 := Scalar.subi c1_i32_5 v5
  let c4_i32_1885_r0 : BitVec 32 := 4#32
  let v2285_r0 : BitVec 32 := Scalar.muli v14 c4_i32_1885_r0
  let v2286_r0 : BitVec 32 := Scalar.addi v2284_r0 v2285_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1886_r0 : BitVec 32 := 1#32
  let v2287_r0 : BitVec 32 := Scalar.muli v8 c1_i32_1886_r0
  let v2288_r0 : BitVec 32 := Scalar.addi v2286_r0 v2287_r0
  v2288_r0.toNat
def k0_dev17 (d0 : Dev nD) : Nat :=
  let c0_i32_1889_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1888_r0 : BitVec 32 := 8#32
  let v2289_r0 : BitVec 32 := Scalar.muli v2 c8_i32_1888_r0
  let v2290_r0 : BitVec 32 := Scalar.addi c0_i32_1889_r0 v2289_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1890_r0 : BitVec 32 := 4#32
  let v2291_r0 : BitVec 32 := Scalar.muli v5 c4_i32_1890_r0
  let v2292_r0 : BitVec 32 := Scalar.addi v2290_r0 v2291_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.xori v8 c1_i32_6
  let c1_i32_1891_r0 : BitVec 32 := 1#32
  let v2293_r0 : BitVec 32 := Scalar.muli v15 c1_i32_1891_r0
  let v2294_r0 : BitVec 32 := Scalar.addi v2292_r0 v2293_r0
  v2294_r0.toNat
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S32x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== KernelIdeal.lean ====
variable {F : FTy → Type} [FloatOps F] [Named F]
def κ : String → Option EReal := fun
  | "inv_sqrt_d" => some (((Real.sqrt 128)⁻¹ : ℝ) : EReal)
  | _ => none
-- ==== ReferenceIdeal.lean ====
abbrev S4x32x8x128 : Shape := ⟨4, ![4, 32, 8, 128]⟩
abbrev S4x8192x8x128 : Shape := ⟨4, ![4, 8192, 8, 128]⟩
abbrev S_ : Shape := ⟨0, ![]⟩
abbrev S4x8x32x8192 : Shape := ⟨4, ![4, 8, 32, 8192]⟩
abbrev S4x8x32 : Shape := ⟨3, ![4, 8, 32]⟩
abbrev S4x8x32x1 : Shape := ⟨4, ![4, 8, 32, 1]⟩
abbrev S4x8x128x32 : Shape := ⟨4, ![4, 8, 128, 32]⟩

abbrev nBuf : Space → Nat
  | .hbm => 23
  | .vmem => 0
  | .smem => 0
  | _ => 0

abbrev bufTy : (tb : Table) → Fin (tcTables nBuf tb) → BufTy
  | .hbm, ⟨0, _⟩ => ⟨S4x32x8x128, .f32⟩
  | .hbm, ⟨1, _⟩ => ⟨S4x8192x8x128, .f32⟩
  | .hbm, ⟨2, _⟩ => ⟨S4x8192x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4x8x32x8192, .f32⟩
  | .hbm, ⟨8, _⟩ => ⟨S4x8x32x8192, .f32⟩
  | .hbm, ⟨9, _⟩ => ⟨S4x8x32x8192, .f32⟩
  | .hbm, ⟨10, _⟩ => ⟨S_, .f32⟩
  | .hbm, ⟨11, _⟩ => ⟨S4x8x32, .f32⟩
  | .hbm, ⟨12, _⟩ => ⟨S4x8x32x1, .f32⟩
  | .hbm, ⟨13, _⟩ => ⟨S4x8x32x8192, .f32⟩
  | .hbm, ⟨14, _⟩ => ⟨S4x8x32x8192, .f32⟩
  | .hbm, ⟨15, _⟩ => ⟨S4x8x32x8192, .f32⟩
  | .hbm, ⟨16, _⟩ => ⟨S_, .f32⟩
  | .hbm, ⟨17, _⟩ => ⟨S4x8x32, .f32⟩
  | .hbm, ⟨18, _⟩ => ⟨S4x8x32x1, .f32⟩
  | .hbm, ⟨19, _⟩ => ⟨S4x8x32x8192, .f32⟩
  | .hbm, ⟨20, _⟩ => ⟨S4x8x32x8192, .f32⟩
  | .hbm, ⟨21, _⟩ => ⟨S4x8x128x32, .f32⟩
  | .hbm, ⟨22, _⟩ => ⟨S4x32x8x128, .f32⟩
  | _, _ => ⟨S4x32x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.Program.lean ====
/- The kernel's body as a short program over a symbolic row number and a symbolic round: what its 4503 printed
   statements do, said once per kind of step. `body_eq` is the proof that the printed body IS this program. -/
module

public import proofs.«01_k».proof.Proof.Gen.KernelIdeal.Skeleton
public import proofs.«01_k».proof.Proof.Gen.KernelIdeal.Points

@[expose] public section

noncomputable section

namespace Cert.KernelIdeal.Flash

open Cert.KernelIdeal.Gen
open Idealize.ShloMosaic Idealize.ShloMosaic.TcCoe
open Idealize.SL Idealize.SL.Sem

variable {F : FTy → Type} [FloatOps F] [Named F]

/-! ## Rows, columns, slots: the views at a symbolic index -/

theorem inbRow {n j : ℕ} (w : Fin 2 → ℕ) (h : j < n) :
    ∀ a, (![j, 0, 0] : Fin 3 → ℕ) a + (![1, w 0, w 1] : Fin 3 → ℕ) a ≤ (![n, w 0, w 1] : Fin 3 → ℕ) a := by
  intro a; fin_cases a <;> simp <;> omega

theorem inbSlot {n j : ℕ} (w : Fin 3 → ℕ) (h : j < n) :
    ∀ a, (![j, 0, 0, 0] : Fin 4 → ℕ) a + (![1, w 0, w 1, w 2] : Fin 4 → ℕ) a ≤ (![n, w 0, w 1, w 2] : Fin 4 → ℕ) a := by
  intro a; fin_cases a <;> simp <;> omega

theorem inbSem {n j : ℕ} (h : j < n) :
    ∀ a, (![j] : Fin 1 → ℕ) a + (![1] : Fin 1 → ℕ) a ≤ (![n] : Fin 1 → ℕ) a := by
  intro a; fin_cases a; simp; omega

theorem inbCol {j : ℕ} (h : j < 32) :
    ∀ a, (![0, j] : Fin 2 → ℕ) a + S32x1.size a ≤ S32x128.size a := by
  intro a; fin_cases a <;> simp <;> omega

/-- Row `j` of the queries' window, and of the running outputs. -/
abbrev rowR (j : Fin 32) : Rect S32x32x128 :=
  Rect.unit (s := S32x32x128) ![j.val, 0, 0] S1x32x128.size (inbRow ![32, 128] j.isLt)
/-- Row `j` of the staged keys, and of the staged values. -/
abbrev kvR (j : Fin 32) : Rect S32x512x128 :=
  Rect.unit (s := S32x512x128) ![j.val, 0, 0] S1x512x128.size (inbRow ![512, 128] j.isLt)
/-- Column `j` of the log-sum-exp table. -/
abbrev colR (j : Fin 32) : Rect S32x128 :=
  Rect.unit (s := S32x128) ![0, j.val] S32x1.size (inbCol j.isLt)
/-- All of the log-sum-exp table, of the running outputs. -/
abbrev lseR : Rect S32x128 := Rect.unit (s := S32x128) ![0, 0] S32x128.size inb_S32x128_S32x128_0_0
abbrev outR : Rect S32x32x128 := Rect.unit (s := S32x32x128) ![0, 0, 0] S32x32x128.size inb_S32x32x128_S32x32x128_0_0_0
/-- The first and the second sixteen rows of the running outputs. -/
abbrev loR : Rect S32x32x128 := Rect.unit (s := S32x32x128) ![0, 0, 0] S16x32x128.size inb_S32x32x128_S16x32x128_0_0_0
abbrev hiR : Rect S32x32x128 := Rect.unit (s := S32x32x128) ![16, 0, 0] S16x32x128.size inb_S32x32x128_S16x32x128_16_0_0
/-- The landing slot of round `r`, of the outputs and of the log-sum-exps; round 0's two halves. -/
abbrev oSlotR (r : Fin 4) : Rect S4x32x32x128 :=
  Rect.unit (s := S4x32x32x128) ![r.val, 0, 0, 0] S1x32x32x128.size (inbSlot ![32, 32, 128] r.isLt)
abbrev lSlotR (r : Fin 4) : Rect S4x32x128 :=
  Rect.unit (s := S4x32x128) ![r.val, 0, 0] S1x32x128.size (inbRow ![32, 128] r.isLt)
abbrev oLoR : Rect S4x32x32x128 :=
  Rect.unit (s := S4x32x32x128) ![0, 0, 0, 0] S1x16x32x128.size inb_S4x32x32x128_S1x16x32x128_0_0_0_0
abbrev oHiR : Rect S4x32x32x128 :=
  Rect.unit (s := S4x32x32x128) ![0, 16, 0, 0] S1x16x32x128.size inb_S4x32x32x128_S1x16x32x128_0_16_0_0

/-- Where the block of keys of row `j` starts in a device's half of the keys. -/
def koff (j : Fin 32) (d0 : Dev nD) : Fin 4 → ℕ := ![j.val / 8, k0_off1 d0 1, j.val % 8, 0]

theorem koff_inb (j : Fin 32) (d0 : Dev nD) : ∀ a, koff j d0 a + S1x512x1x128.size a ≤ S4x4096x8x128.size a := by
  have h := k0_off1_inb d0 1
  have := j.isLt
  intro a; fin_cases a <;> simp [koff] at h ⊢ <;> omega

abbrev blkR (j : Fin 32) (d0 : Dev nD) : Rect S4x4096x8x128 :=
  Rect.unit (s := S4x4096x8x128) (koff j d0) S1x512x1x128.size (koff_inb j d0)

/-- The block of row `j` of an array of keys or of values. -/
abbrev blk (m : Memref sig .tc .hbm S4x4096x8x128 .f32) (j : Fin 32) (d0 : Dev nD) : Memref sig .tc .hbm S512x128 .f32 :=
  (m.slice (blkR j d0) (fun _ => rfl)).squeeze S512x128 squeezes_S1x512x1x128_S512x128
/-- Row `j` of a staging buffer. -/
abbrev kvRow (m : Memref sig .tc .vmem S32x512x128 .f32) (j : Fin 32) : Memref sig .tc .vmem S512x128 .f32 :=
  (m.slice (kvR j) (fun _ => rfl)).squeeze S512x128 squeezes_S1x512x128_S512x128

abbrev kM : Memref sig .tc .hbm S4x4096x8x128 .f32 := Memref.whole main_arg1
abbrev vM : Memref sig .tc .hbm S4x4096x8x128 .f32 := Memref.whole main_arg2
abbrev khM : Memref sig .tc .vmem S32x512x128 .f32 := Memref.whole cc0_scratch0
abbrev vhM : Memref sig .tc .vmem S32x512x128 .f32 := Memref.whole cc0_scratch1
abbrev oM : Memref sig .tc .vmem S32x32x128 .f32 := Memref.whole cc0_scratch2
abbrev lM : Memref sig .tc .vmem S32x128 .f32 := Memref.whole cc0_scratch3
abbrev sM : Memref sig .tc .vmem S32x32x128 .bf16 := Memref.whole cc0_scratch4
abbrev orM : Memref sig .tc .vmem S4x32x32x128 .bf16 := Memref.whole cc0_scratch5
abbrev lrM : Memref sig .tc .vmem S4x32x128 .f32 := Memref.whole cc0_scratch6

abbrev sem32 (s : DmaSems sig S32) (j : Fin 32) : DmaSem sig :=
  ((s.slice (Rect.unit (s := S32) ![j.val] S1.size (inbSem j.isLt))).squeeze S_ squeezes_S1_S_).sem
abbrev sem5 (s : DmaSems sig S5) (j : Fin 5) : DmaSem sig :=
  ((s.slice (Rect.unit (s := S5) ![j.val] S1.size (inbSem j.isLt))).squeeze S_ squeezes_S1_S_).sem
abbrev sem4 (s : DmaSems sig S4) (j : Fin 4) : DmaSem sig :=
  ((s.slice (Rect.unit (s := S4) ![j.val] S1.size (inbSem j.isLt))).squeeze S_ squeezes_S1_S_).sem

/-- What a transfer of outputs reads and where it lands, by which of the five it is: 0 and 4 are the halves of round
    0, the others whole rounds. -/
abbrev oLand (r : Fin 4) : Memref sig .tc .vmem S32x32x128 .bf16 :=
  (orM.slice (oSlotR r) (fun _ => rfl)).squeeze S32x32x128 squeezes_S1x32x32x128_S32x32x128
abbrev oLandLo : Memref sig .tc .vmem S16x32x128 .bf16 :=
  (orM.slice oLoR (fun _ => rfl)).squeeze S16x32x128 squeezes_S1x16x32x128_S16x32x128
abbrev oLandHi : Memref sig .tc .vmem S16x32x128 .bf16 :=
  (orM.slice oHiR (fun _ => rfl)).squeeze S16x32x128 squeezes_S1x16x32x128_S16x32x128
abbrev oSend : Memref sig .tc .vmem S32x32x128 .bf16 := sM.slice outR (fun _ => rfl)
abbrev oSendLo : Memref sig .tc .vmem S16x32x128 .bf16 := sM.slice loR (fun _ => rfl)
abbrev oSendHi : Memref sig .tc .vmem S16x32x128 .bf16 := sM.slice hiR (fun _ => rfl)
abbrev lLand (r : Fin 4) : Memref sig .tc .vmem S32x128 .f32 :=
  (lrM.slice (lSlotR r) (fun _ => rfl)).squeeze S32x128 squeezes_S1x32x128_S32x128

abbrev bar0 : Sem sig := (SemArray.scalar (sig.barrier 0 rfl) : Sems sig S_).sem
abbrev bar1 : Sem sig := cc0_scoped0.sem

/-! ## The steps, each followed by what comes after it -/

abbrev Body (F : FTy → Type) : Type 1 := Prog (TpuEff nD τ sig (Elt F) Λ₀ .tc) PUnit

/-- Start the transfers of row `j`'s block of keys and of values. -/
def start (d0 : Dev nD) (j : Fin 32) (k : Body F) : Body F :=
  .op (.enqueueDma (blk kM j d0) (.here (kvRow khM j)) (.dma (sem32 cc0_scratch7 j)) ((View.wordExact_bits rfl).reshape _ _) ((View.wordExact_bits rfl).reshape _ _) ⟨Or.inl rfl, trivial⟩) fun _ =>
  .op (.enqueueDma (blk vM j d0) (.here (kvRow vhM j)) (.dma (sem32 cc0_scratch8 j)) ((View.wordExact_bits rfl).reshape _ _) ((View.wordExact_bits rfl).reshape _ _) ⟨Or.inl rfl, trivial⟩) fun _ =>
  k

def starts (d0 : Dev nD) : (n a : ℕ) → a + n ≤ 32 → Body F → Body F
  | 0, _, _, k => k
  | n + 1, a, h, k => start d0 ⟨a, by omega⟩ (starts d0 n (a + 1) (by omega) k)

/-- Row `j`: wait for its keys and values, and store its partial output and its log-sum-exp. -/
def iter (qM : Memref sig .tc .vmem S32x32x128 .f32) (d0 : Dev nD) (j : Fin 32) (k : Body F) : Body F :=
  .op (.waitDma2 (sem32 cc0_scratch7 j) (blk kM 0 d0) (kvRow khM j) ((View.wordExact_bits rfl).reshape _ _) ((View.wordExact_bits rfl).reshape _ _)) fun _ =>
  .op (.waitDma2 (sem32 cc0_scratch8 j) (blk vM 0 d0) (kvRow vhM j) ((View.wordExact_bits rfl).reshape _ _) ((View.wordExact_bits rfl).reshape _ _)) fun _ =>
  .op (.load qM (rowR j).toLoadRect (View.loadsAt_vmem h_S1x32x128)) fun (q : Vec F S1x32x128 .f32) =>
  .op (.load khM (kvR j).toLoadRect (View.loadsAt_vmem h_S1x512x128)) fun (kk : Vec F S1x512x128 .f32) =>
  .op (.load vhM (kvR j).toLoadRect (View.loadsAt_vmem h_S1x512x128)) fun (vv : Vec F S1x512x128 .f32) =>
  .op (.load oM (rowR j).toLoadRect (View.loadsAt_vmem h_S1x32x128)) fun _ =>
  .op (.store oM (rowR j) (k0_pay6 q kk vv) Finset.univ (View.stores_vmem_bits_univ h_S1x32x128 rfl) (.inl rfl)) fun _ =>
  .op (.load lM (colR j).toLoadRect (View.loadsAt_vmem h_S32x1)) fun _ =>
  .op (.store lM (colR j) (k0_pay7 q kk) Finset.univ (View.stores_vmem_bits_univ h_S32x1 rfl) (.inl rfl)) fun _ =>
  k

def iters (qM : Memref sig .tc .vmem S32x32x128 .f32) (d0 : Dev nD) : (n a : ℕ) → a + n ≤ 32 → Body F → Body F
  | 0, _, _, k => k
  | n + 1, a, h, k => iter qM d0 ⟨a, by omega⟩ (iters qM d0 n (a + 1) (by omega) k)

/-- Copy a half of the running outputs to the buffer it is sent from. -/
def stageLo (k : Body F) : Body F :=
  .op (.load oM loR.toLoadRect (View.loadsAt_vmem h_S16x32x128)) fun (o : Vec F S16x32x128 .f32) =>
  .op (.load sM loR.toLoadRect (View.loadsAt_vmem h_S16x32x128)) fun _ =>
  .op (.store sM loR (k0_pay116 o) Finset.univ (View.stores_vmem h_S16x32x128 ((Memref.isWhole_whole cc0_scratch4).storeExact_slice rfl _ packedbf16_S32x32x128_S16x32x128_0_0_0) (fun _ => rfl)) (.inl rfl)) fun _ =>
  k
def stageHi (k : Body F) : Body F :=
  .op (.load oM hiR.toLoadRect (View.loadsAt_vmem h_S16x32x128)) fun (o : Vec F S16x32x128 .f32) =>
  .op (.load sM hiR.toLoadRect (View.loadsAt_vmem h_S16x32x128)) fun _ =>
  .op (.store sM hiR (k0_pay116 o) Finset.univ (View.stores_vmem h_S16x32x128 ((Memref.isWhole_whole cc0_scratch4).storeExact_slice rfl _ packedbf16_S32x32x128_S16x32x128_16_0_0) (fun _ => rfl)) (.inl rfl)) fun _ =>
  k
def stageAll (k : Body F) : Body F :=
  .op (.load oM outR.toLoadRect (View.loadsAt_vmem h_S32x32x128)) fun (o : Vec F S32x32x128 .f32) =>
  .op (.load sM outR.toLoadRect (View.loadsAt_vmem h_S32x32x128)) fun _ =>
  .op (.store sM outR (k0_pay237 o) Finset.univ (View.stores_vmem h_S32x32x128 ((Memref.isWhole_whole cc0_scratch4).storeExact_slice rfl _ packedbf16_S32x32x128_S32x32x128_0_0_0) (fun _ => rfl)) (.inl rfl)) fun _ =>
  k

/-- Signal a semaphore of the four partners, then wait for the four signals of theirs. -/
def barrier (s : Sem sig) (p0 p1 p2 p3 : Dev nD) (k : Body F) : Body F :=
  .op (.semSignal (Dev.tc p0) s (1#32).toInt) fun _ =>
  .op (.semSignal (Dev.tc p1) s (1#32).toInt) fun _ =>
  .op (.semSignal (Dev.tc p2) s (1#32).toInt) fun _ =>
  .op (.semSignal (Dev.tc p3) s (1#32).toInt) fun _ =>
  .op (.semWait s (4#32).toInt) fun _ =>
  k

theorem wordsSlot : ∀ r : Fin 4, (oSlotR r).WholeWords (EltTy.packing .bf16) := by decide

/-- Send the first half of round 0 to a partner. -/
def sendLo (p : Dev nD) (k : Body F) : Body F :=
  .op (.enqueueDma oSendLo (.remote (Dev.tc p) oLandLo (.dma (sem5 cc0_scratch9 0))) (.dma (sem5 cc0_scratch11 0)) ((Memref.isWhole_whole cc0_scratch4).wordExact_slice rfl _ wordsbf16_S32x32x128_S16x32x128_0_0_0) (((Memref.isWhole_whole cc0_scratch5).wordExact_slice rfl _ wordsbf16_S4x32x32x128_S1x16x32x128_0_0_0_0).reshape _ _) ⟨⟨rfl, Or.inl rfl⟩, trivial⟩) fun _ =>
  k
/-- Send the second half of round 0. -/
def sendHi (p : Dev nD) (k : Body F) : Body F :=
  .op (.enqueueDma oSendHi (.remote (Dev.tc p) oLandHi (.dma (sem5 cc0_scratch9 4))) (.dma (sem5 cc0_scratch11 4)) ((Memref.isWhole_whole cc0_scratch4).wordExact_slice rfl _ wordsbf16_S32x32x128_S16x32x128_16_0_0) (((Memref.isWhole_whole cc0_scratch5).wordExact_slice rfl _ wordsbf16_S4x32x32x128_S1x16x32x128_0_16_0_0).reshape _ _) ⟨⟨rfl, Or.inl rfl⟩, trivial⟩) fun _ =>
  k
/-- Send the outputs of round `r`. -/
def sendAll (r : Fin 4) (p : Dev nD) (k : Body F) : Body F :=
  .op (.enqueueDma oSend (.remote (Dev.tc p) (oLand r) (.dma (sem5 cc0_scratch9 r.castSucc))) (.dma (sem5 cc0_scratch11 r.castSucc)) ((Memref.isWhole_whole cc0_scratch4).wordExact_slice rfl _ wordsbf16_S32x32x128_S32x32x128_0_0_0) (((Memref.isWhole_whole cc0_scratch5).wordExact_slice rfl _ (wordsSlot r)).reshape _ _) ⟨⟨rfl, Or.inl rfl⟩, trivial⟩) fun _ =>
  k
/-- Send the log-sum-exps of round `r`. -/
def sendLse (r : Fin 4) (p : Dev nD) (k : Body F) : Body F :=
  .op (.enqueueDma lM (.remote (Dev.tc p) (lLand r) (.dma (sem4 cc0_scratch10 r))) (.dma (sem4 cc0_scratch12 r)) (Memref.isWhole_whole cc0_scratch3).wordExact ((View.wordExact_bits rfl).reshape _ _) ⟨⟨rfl, Or.inl rfl⟩, trivial⟩) fun _ =>
  k
/-- Wait until that half is sent and the partner's has landed. -/
def waitLo (k : Body F) : Body F :=
  .op (.waitDma2 (sem5 cc0_scratch9 0) oLandLo oSendLo (((Memref.isWhole_whole cc0_scratch5).wordExact_slice rfl _ wordsbf16_S4x32x32x128_S1x16x32x128_0_0_0_0).reshape _ _) ((Memref.isWhole_whole cc0_scratch4).wordExact_slice rfl _ wordsbf16_S32x32x128_S16x32x128_0_0_0)) fun _ =>
  .op (.waitDma2 (sem5 cc0_scratch11 0) oSendLo oLandLo ((Memref.isWhole_whole cc0_scratch4).wordExact_slice rfl _ wordsbf16_S32x32x128_S16x32x128_0_0_0) (((Memref.isWhole_whole cc0_scratch5).wordExact_slice rfl _ wordsbf16_S4x32x32x128_S1x16x32x128_0_0_0_0).reshape _ _)) fun _ =>
  k
/-- The same for the second half. -/
def waitHi (k : Body F) : Body F :=
  .op (.waitDma2 (sem5 cc0_scratch9 4) oLandHi oSendHi (((Memref.isWhole_whole cc0_scratch5).wordExact_slice rfl _ wordsbf16_S4x32x32x128_S1x16x32x128_0_16_0_0).reshape _ _) ((Memref.isWhole_whole cc0_scratch4).wordExact_slice rfl _ wordsbf16_S32x32x128_S16x32x128_16_0_0)) fun _ =>
  .op (.waitDma2 (sem5 cc0_scratch11 4) oSendHi oLandHi ((Memref.isWhole_whole cc0_scratch4).wordExact_slice rfl _ wordsbf16_S32x32x128_S16x32x128_16_0_0) (((Memref.isWhole_whole cc0_scratch5).wordExact_slice rfl _ wordsbf16_S4x32x32x128_S1x16x32x128_0_16_0_0).reshape _ _)) fun _ =>
  k
/-- The same for the outputs of round `r`. -/
def waitAll (r : Fin 4) (k : Body F) : Body F :=
  .op (.waitDma2 (sem5 cc0_scratch9 r.castSucc) (oLand r) oSend (((Memref.isWhole_whole cc0_scratch5).wordExact_slice rfl _ (wordsSlot r)).reshape _ _) ((Memref.isWhole_whole cc0_scratch4).wordExact_slice rfl _ wordsbf16_S32x32x128_S32x32x128_0_0_0)) fun _ =>
  .op (.waitDma2 (sem5 cc0_scratch11 r.castSucc) oSend (oLand r) ((Memref.isWhole_whole cc0_scratch4).wordExact_slice rfl _ wordsbf16_S32x32x128_S32x32x128_0_0_0) (((Memref.isWhole_whole cc0_scratch5).wordExact_slice rfl _ (wordsSlot r)).reshape _ _)) fun _ =>
  k
/-- The same for the log-sum-exps of round `r`. -/
def waitLse (r : Fin 4) (k : Body F) : Body F :=
  .op (.waitDma2 (sem4 cc0_scratch10 r) (lLand r) lM ((View.wordExact_bits rfl).reshape _ _) (Memref.isWhole_whole cc0_scratch3).wordExact) fun _ =>
  .op (.waitDma2 (sem4 cc0_scratch12 r) lM (lLand r) (Memref.isWhole_whole cc0_scratch3).wordExact ((View.wordExact_bits rfl).reshape _ _)) fun _ =>
  k
/-- Merge the landed log-sum-exps of round `r`; what comes after is given the landed outputs' weight. -/
def mergeLse (r : Fin 4) (k : FVec F S32x128 .f32 → Body F) : Body F :=
  .op (.load lM lseR.toLoadRect (View.loadsAt_vmem h_S32x128)) fun (ls : Vec F S32x128 .f32) =>
  .op (.load lrM (lSlotR r).toLoadRect (View.loadsAt_vmem h_S1x32x128)) fun (lr : Vec F S1x32x128 .f32) =>
  .op (.load lM lseR.toLoadRect (View.loadsAt_vmem h_S32x128)) fun _ =>
  .op (.store lM lseR (k0_pay240 ls lr) Finset.univ (View.stores_vmem_bits_univ h_S32x128 rfl) (.inl rfl)) fun _ =>
  k (k0_pay239 ls lr)

/-- Merge the landed outputs. -/
def mergeLo (w : FVec F S32x128 .f32) (k : Body F) : Body F :=
  .op (.load oM loR.toLoadRect (View.loadsAt_vmem h_S16x32x128)) fun (o : Vec F S16x32x128 .f32) =>
  .op (.load orM oLoR.toLoadRect (View.loadsAt_vmem h_S1x16x32x128)) fun (l : Vec F S1x16x32x128 .bf16) =>
  .op (.load oM loR.toLoadRect (View.loadsAt_vmem h_S16x32x128)) fun _ =>
  .op (.store oM loR (k0_pay235 w o l) Finset.univ (View.stores_vmem_bits_univ h_S16x32x128 rfl) (.inl rfl)) fun _ =>
  k
def mergeHi (w : FVec F S32x128 .f32) (k : Body F) : Body F :=
  .op (.load oM hiR.toLoadRect (View.loadsAt_vmem h_S16x32x128)) fun (o : Vec F S16x32x128 .f32) =>
  .op (.load orM oHiR.toLoadRect (View.loadsAt_vmem h_S1x16x32x128)) fun (l : Vec F S1x16x32x128 .bf16) =>
  .op (.load oM hiR.toLoadRect (View.loadsAt_vmem h_S16x32x128)) fun _ =>
  .op (.store oM hiR (k0_pay236 w o l) Finset.univ (View.stores_vmem_bits_univ h_S16x32x128 rfl) (.inl rfl)) fun _ =>
  k
def mergeAll (r : Fin 4) (w : FVec F S32x128 .f32) (k : Body F) : Body F :=
  .op (.load oM outR.toLoadRect (View.loadsAt_vmem h_S32x32x128)) fun (o : Vec F S32x32x128 .f32) =>
  .op (.load orM (oSlotR r).toLoadRect (View.loadsAt_vmem h_S1x32x32x128)) fun (l : Vec F S1x32x32x128 .bf16) =>
  .op (.load oM outR.toLoadRect (View.loadsAt_vmem h_S32x32x128)) fun _ =>
  .op (.store oM outR (k0_pay241 w o l) Finset.univ (View.stores_vmem_bits_univ h_S32x32x128 rfl) (.inl rfl)) fun _ =>
  k

/-- A whole round after the first. -/
def round (r : Fin 4) (po pl : Dev nD) (k : Body F) : Body F :=
  stageAll <| sendAll r po <| sendLse r pl <| waitLse r <| mergeLse r fun w => waitAll r <| mergeAll r w k

/-- Clear the log-sum-exp table. -/
def clear (k : Body F) : Body F :=
  .op (.load lM lseR.toLoadRect (View.loadsAt_vmem h_S32x128)) fun _ =>
  .op (.store lM lseR k0_pay1 Finset.univ (View.stores_vmem_bits_univ h_S32x128 rfl) (.inl rfl)) fun _ =>
  k

/-- Write the result. -/
def emit (uM : Memref sig .tc .vmem S32x32x128 .f32) (k : Body F) : Body F :=
  .op (.load oM outR.toLoadRect (View.loadsAt_vmem h_S32x32x128)) fun (o : Vec F S32x32x128 .f32) =>
  .op (.load uM outR.toLoadRect (View.loadsAt_vmem h_S32x32x128)) fun _ =>
  .op (.store uM outR o Finset.univ (View.stores_vmem_bits_univ h_S32x32x128 rfl) (.inl rfl)) fun _ =>
  k

/-- The whole body, from the device on. -/
def bodyAt (qM uM : Memref sig .tc .vmem S32x32x128 .f32) (d0 : Dev nD) : Body F :=
  starts d0 32 0 (by omega) <| clear <|
  iters qM d0 16 0 (by omega) <| stageLo <|
  barrier bar0 ⟨k0_dev1 d0, k0_dev1_lt d0⟩ ⟨k0_dev2 d0, k0_dev2_lt d0⟩ ⟨k0_dev3 d0, k0_dev3_lt d0⟩ ⟨k0_dev4 d0, k0_dev4_lt d0⟩ <|
  sendLo ⟨k0_dev5 d0, k0_dev5_lt d0⟩ <|
  iters qM d0 16 16 (by omega) <| stageHi <|
  sendHi ⟨k0_dev6 d0, k0_dev6_lt d0⟩ <| sendLse 0 ⟨k0_dev7 d0, k0_dev7_lt d0⟩ <|
  waitLse 0 <| mergeLse 0 fun w => waitLo <| mergeLo w <| waitHi <| mergeHi w <|
  round 1 ⟨k0_dev8 d0, k0_dev8_lt d0⟩ ⟨k0_dev9 d0, k0_dev9_lt d0⟩ <|
  round 2 ⟨k0_dev10 d0, k0_dev10_lt d0⟩ ⟨k0_dev11 d0, k0_dev11_lt d0⟩ <|
  round 3 ⟨k0_dev12 d0, k0_dev12_lt d0⟩ ⟨k0_dev13 d0, k0_dev13_lt d0⟩ <|
  emit uM <|
  barrier bar1 ⟨k0_dev14 d0, k0_dev14_lt d0⟩ ⟨k0_dev15 d0, k0_dev15_lt d0⟩ ⟨k0_dev16 d0, k0_dev16_lt d0⟩ ⟨k0_dev17 d0, k0_dev17_lt d0⟩ <|
  .ret ⟨⟩

set_option maxRecDepth 65536 in
set_option maxHeartbeats 4000000 in
/-- The printed body is this program. -/
theorem body_eq (i : grid0.Coords) (qM uM : Memref sig .tc .vmem S32x32x128 .f32) (hq : qM.IsWhole) (hu : uM.IsWhole) :
    cc0_body (F := F) i qM hq kM (Memref.isWhole_whole _) vM (Memref.isWhole_whole _) uM hu khM (Memref.isWhole_whole _)
      vhM (Memref.isWhole_whole _) oM (Memref.isWhole_whole _) lM (Memref.isWhole_whole _) sM (Memref.isWhole_whole _)
      orM (Memref.isWhole_whole _) lrM (Memref.isWhole_whole _) cc0_scratch7 cc0_scratch8 cc0_scratch9 cc0_scratch10
      cc0_scratch11 cc0_scratch12 cc0_scoped0 = .op .deviceId fun d0 => bodyAt qM uM d0 := by
  rw [cc0_body_eq_skeleton]
  rfl

end Cert.KernelIdeal.Flash

end

end
-- ==== Proof.Schedule.lean ====
/- The run's schedule: the four partners of a device, what each device holds after each round as a function of every
   device's inputs, the semaphores' cells, who raises each, by how much, in what order, and the contents each landing
   hands over. -/
module

public import proofs.«01_k».proof.Proof.Program
public import proofs.«01_k».proof.Proof.Gen.KernelIdeal.Launch
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Transfers
public import Idealize.ShloMosaic.Lib.Memref
public import Idealize.ShloMosaic.Lib.Tactic

@[expose] public section

noncomputable section

namespace Cert.KernelIdeal.Flash

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## Partners -/

/-- Which bit of the device number the partner of each round flips. -/
def flip : ℕ → ℕ
  | 0 => 2
  | 1 => 8
  | 2 => 4
  | _ => 1

theorem flip_lt (n : ℕ) : flip n < 2 ^ 4 := by
  match n with
  | 0 | 1 | 2 => decide
  | _ + 3 => show 1 < 16; decide

/-- The partner of a device in round `n`. -/
def par (n : ℕ) (c : Dev nD) : Dev nD := ⟨c.val ^^^ flip n, Nat.xor_lt_two_pow (n := 4) c.isLt (flip_lt n)⟩

theorem par_par (n : ℕ) (c : Dev nD) : par n (par n c) = c :=
  Fin.ext (by simp [par, Nat.xor_assoc])

/-- Passing to the partner, as a permutation of the devices. -/
def parE (n : ℕ) : Dev nD ≃ Dev nD := ⟨par n, par n, par_par n, par_par n⟩

/-! ## Indices by their coordinates -/

def i2 {d : Fin 2 → ℕ} (a : Fin (d 0)) (b : Fin (d 1)) : (⟨2, d⟩ : Shape).Idx := fun
  | ⟨0, _⟩ => a
  | ⟨1, _⟩ => b
def i3 {d : Fin 3 → ℕ} (a : Fin (d 0)) (b : Fin (d 1)) (c : Fin (d 2)) : (⟨3, d⟩ : Shape).Idx := fun
  | ⟨0, _⟩ => a
  | ⟨1, _⟩ => b
  | ⟨2, _⟩ => c
def i4 {d : Fin 4 → ℕ} (a : Fin (d 0)) (b : Fin (d 1)) (c : Fin (d 2)) (e : Fin (d 3)) : (⟨4, d⟩ : Shape).Idx := fun
  | ⟨0, _⟩ => a
  | ⟨1, _⟩ => b
  | ⟨2, _⟩ => c
  | ⟨3, _⟩ => e

theorem i2_eta {d : Fin 2 → ℕ} (i : (⟨2, d⟩ : Shape).Idx) : i2 (i 0) (i 1) = i := by
  funext a; match a with | ⟨0, _⟩ | ⟨1, _⟩ => rfl
theorem i3_eta {d : Fin 3 → ℕ} (i : (⟨3, d⟩ : Shape).Idx) : i3 (i 0) (i 1) (i 2) = i := by
  funext a; match a with | ⟨0, _⟩ | ⟨1, _⟩ | ⟨2, _⟩ => rfl
theorem i4_eta {d : Fin 4 → ℕ} (i : (⟨4, d⟩ : Shape).Idx) : i4 (i 0) (i 1) (i 2) (i 3) = i := by
  funext a; match a with | ⟨0, _⟩ | ⟨1, _⟩ | ⟨2, _⟩ | ⟨3, _⟩ => rfl

/-! ## What the devices hold -/

/-- Every device's inputs: the queries, and its halves of the keys and of the values. -/
structure In (F : FTy → Type) where
  q : Dev nD → Vec F S32x32x128 .f32
  k : Dev nD → Vec F S4x4096x8x128 .f32
  v : Dev nD → Vec F S4x4096x8x128 .f32

/-- The running outputs and log-sum-exps of one device. -/
structure St (F : FTy → Type) where
  o : Vec F S32x32x128 .f32
  l : Vec F S32x128 .f32

variable (x : In F)

/-- The block of keys, and of values, of row `j` on device `c`. -/
def kblk (c : Dev nD) (j : Fin 32) : Vec F S512x128 .f32 := (blk kM j c).view.read (Elt F) (x.k c)
def vblk (c : Dev nD) (j : Fin 32) : Vec F S512x128 .f32 := (blk vM j c).view.read (Elt F) (x.v c)
def krow (c : Dev nD) (j : Fin 32) : Vec F S1x512x128 .f32 := fun i => kblk x c j (i2 (i 1) (i 2))
def vrow (c : Dev nD) (j : Fin 32) : Vec F S1x512x128 .f32 := fun i => vblk x c j (i2 (i 1) (i 2))
def qrow (c : Dev nD) (j : Fin 32) : Vec F S1x32x128 .f32 := fun i => x.q c ((rowR j).emb i)

/-- The attention of device `c`'s own keys, a row at a time, -/
def o0 (c : Dev nD) : Vec F S32x32x128 .f32 := fun i => k0_pay6 (qrow x c (i 0)) (krow x c (i 0)) (vrow x c (i 0)) (i3 (0 : Fin 1) (i 1) (i 2))
/-- and its log-sum-exps, a column at a time; the other columns are clear. -/
def l0 (c : Dev nD) : Vec F S32x128 .f32 := fun i =>
  if h : (i 1).val < 32 then k0_pay7 (qrow x c ⟨(i 1).val, h⟩) (krow x c ⟨(i 1).val, h⟩) (i2 (i 0) (0 : Fin 1)) else k0_pay1 (F := F) i

/-- What a device sends of its outputs: the halves of round 0, all of them later. -/
def sLo (o : Vec F S32x32x128 .f32) : Vec F S16x32x128 .bf16 := k0_pay116 fun i => o (loR.emb i)
def sHi (o : Vec F S32x32x128 .f32) : Vec F S16x32x128 .bf16 := k0_pay116 fun i => o (hiR.emb i)
def sAll (o : Vec F S32x32x128 .f32) : Vec F S32x32x128 .bf16 := k0_pay237 o

def lrow (l : Vec F S32x128 .f32) : Vec F S1x32x128 .f32 := fun i => l (i2 (i 1) (i 2))
def hrow (s : Vec F S16x32x128 .bf16) : Vec F S1x16x32x128 .bf16 := fun i => s (i3 (i 1) (i 2) (i 3))
def arow (s : Vec F S32x32x128 .bf16) : Vec F S1x32x32x128 .bf16 := fun i => s (i3 (i 1) (i 2) (i 3))

/-- The partner's weight, and the merged log-sum-exps. -/
def wt (l l' : Vec F S32x128 .f32) : FVec F S32x128 .f32 := k0_pay239 l (lrow l')
def mrgL (l l' : Vec F S32x128 .f32) : Vec F S32x128 .f32 := k0_pay240 l (lrow l')
/-- The merged outputs of round 0, of the later rounds. -/
def mrgLo (w : FVec F S32x128 .f32) (o : Vec F S32x32x128 .f32) (s : Vec F S16x32x128 .bf16) : Vec F S16x32x128 .f32 :=
  k0_pay235 w (fun i => o (loR.emb i)) (hrow s)
def mrgHi (w : FVec F S32x128 .f32) (o : Vec F S32x32x128 .f32) (s : Vec F S16x32x128 .bf16) : Vec F S16x32x128 .f32 :=
  k0_pay236 w (fun i => o (hiR.emb i)) (hrow s)
def mrgAll (w : FVec F S32x128 .f32) (o : Vec F S32x32x128 .f32) (s : Vec F S32x32x128 .bf16) : Vec F S32x32x128 .f32 :=
  k0_pay241 w o (arow s)
/-- Sixteen rows and sixteen more. -/
def glue (a b : Vec F S16x32x128 .f32) : Vec F S32x32x128 .f32 := fun i =>
  if h : (i 0).val < 16 then a (i3 (⟨(i 0).val, h⟩ : Fin 16) (i 1) (i 2)) else b (i3 (⟨(i 0).val - 16, by have : (i 0).val < 32 := (i 0).isLt; omega⟩ : Fin 16) (i 1) (i 2))

/-- One round at one device, whose partner holds `t`. -/
def step : ℕ → St F → St F → St F
  | 0, s, t => ⟨glue (mrgLo (wt s.l t.l) s.o (sLo t.o)) (mrgHi (wt s.l t.l) s.o (sHi t.o)), mrgL s.l t.l⟩
  | _ + 1, s, t => ⟨mrgAll (wt s.l t.l) s.o (sAll t.o), mrgL s.l t.l⟩

/-- What device `c` holds before round `n`. -/
def st : ℕ → Dev nD → St F
  | 0, c => ⟨o0 x c, l0 x c⟩
  | n + 1, c => step n (st n c) (st n (par n c))

/-! ## The cells -/

/-- The kinds of semaphore a device raises of another or waits for itself, the local transfers' apart: sending and
    landing of the first half, the second half, the outputs of round `r + 1`, the log-sum-exps of round `r`; the two
    barriers. -/
inductive Cell | sLo | sHi | sAll (r : Fin 3) | sLse (r : Fin 4) | rLo | rHi | rAll (r : Fin 3) | rLse (r : Fin 4) | b0 | b1
  deriving DecidableEq

/-- All of them. -/
def Cell.all : List Cell :=
  [.sLo, .sHi, .sAll 0, .sAll 1, .sAll 2, .sLse 0, .sLse 1, .sLse 2, .sLse 3,
   .rLo, .rHi, .rAll 0, .rAll 1, .rAll 2, .rLse 0, .rLse 1, .rLse 2, .rLse 3, .b0, .b1]

instance : Fintype Cell := ⟨Cell.all.toFinset, fun k => by
  cases k with
  | sAll r => revert r; decide
  | sLse r => revert r; decide
  | rAll r => revert r; decide
  | rLse r => revert r; decide
  | _ => decide⟩

namespace Cell

def sem : Cell → SemLoc sig
  | sLo => .dma (sem5 cc0_scratch9 0)
  | sHi => .dma (sem5 cc0_scratch9 4)
  | sAll r => .dma (sem5 cc0_scratch9 r.succ.castSucc)
  | sLse r => .dma (sem4 cc0_scratch10 r)
  | rLo => .dma (sem5 cc0_scratch11 0)
  | rHi => .dma (sem5 cc0_scratch11 4)
  | rAll r => .dma (sem5 cc0_scratch11 r.succ.castSucc)
  | rLse r => .dma (sem4 cc0_scratch12 r)
  | b0 => .reg bar0
  | b1 => .reg bar1

/-- Its number among the semaphores of its sort. -/
def num : Cell → Bool × ℕ
  | sLo => (true, 66)
  | sHi => (true, 70)
  | sAll r => (true, 67 + r.val)
  | sLse r => (true, 71 + r.val)
  | rLo => (true, 75)
  | rHi => (true, 79)
  | rAll r => (true, 76 + r.val)
  | rLse r => (true, 80 + r.val)
  | b0 => (false, 0)
  | b1 => (false, 1)

end Cell

def semNum : SemLoc sig → Bool × ℕ
  | .dma s => (true, s.val)
  | .reg s => (false, s.val)

theorem sem_num (k : Cell) : semNum k.sem = k.num := by
  cases k with
  | sAll r => fin_cases r <;> rfl
  | sLse r => fin_cases r <;> rfl
  | rAll r => fin_cases r <;> rfl
  | rLse r => fin_cases r <;> rfl
  | _ => rfl

theorem num_inj : ∀ k k' : Cell, k.num = k'.num → k = k' := by decide

theorem sem_inj {k k' : Cell} (h : k.sem = k'.sem) : k = k' :=
  num_inj k k' (by rw [← sem_num, ← sem_num, h])

open Classical in
/-- Which kind a semaphore is of. -/
def kind (sm : SemLoc sig) : Option Cell := if h : ∃ k : Cell, k.sem = sm then some h.choose else none

theorem kind_sem (k : Cell) : kind k.sem = some k := by
  have h : ∃ k' : Cell, k'.sem = k.sem := ⟨k, rfl⟩
  unfold kind
  rw [dif_pos h]
  exact congrArg some (sem_inj h.choose_spec)

theorem kind_eq {sm : SemLoc sig} {k : Cell} (h : kind sm = some k) : k.sem = sm := by
  unfold kind at h
  split at h
  · rename_i h'; rw [← Option.some.inj h]; exact h'.choose_spec
  · exact absurd h (by simp)

/-- A kind's cell on device `c`. -/
abbrev cell (c : Dev nD) (k : Cell) : GSem nD τ sig := ((c : Thread nD τ), k.sem)

/-- Units of one duty of a cell. -/
def amt : Cell → ℕ
  | .sLo | .rLo => oLandLo.view.dmaCredit
  | .sHi | .rHi => oLandHi.view.dmaCredit
  | .sAll r | .rAll r => (oLand r.succ).view.dmaCredit
  | .sLse r | .rLse r => (lLand r).view.dmaCredit
  | .b0 | .b1 => 1

theorem amt_pos (k : Cell) : 0 < amt k := by
  cases k <;> first | exact View.dmaCredit_pos _ (by decide) | exact Nat.one_pos

/-- The duties of a cell: a barrier has one for each partner, by the round. -/
def dts : Cell → Finset (Fin 4)
  | .b0 | .b1 => Finset.univ
  | _ => {0}

/-- The round in whose partner another device's duty of a cell lies. -/
def rnd : Cell → Fin 4 → ℕ
  | .rLo, _ | .rHi, _ => 0
  | .rAll r, _ => r.val + 1
  | .rLse r, _ => r.val
  | _, d => d.val

/-- The order: barriers' levels, landings' levels. -/
def lvl : Cell → ℕ
  | .b0 => 1
  | .rLo | .rHi => 2
  | .rAll r => 3 + r.val
  | .rLse r => 2 + r.val
  | .b1 => 6
  | _ => 0

/-! ## The resources -/

abbrev UB : Type := URounds (GSem nD τ sig) (Fin 4)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The rounds of the kernel's own cells. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER (F := F) : Emb UB 𝕄).LandsIn (upEmb : UEmb _ 𝕄) := by unfold ER; infer_instance
/-- The local transfers' counters. -/
abbrev EC : UEmb Counters (MT nD τ sig Unit (Elt F) ℕ UU ℕ) := countersEmb

/-- Round 0 of every cell of device `p` is reached. -/
def allReached (p : Dev nD) : sProp 𝕄 := bigSep Finset.univ fun k : Cell => reached (ER (F := F)) (cell p k) 0

instance allReached_persistent (p : Dev nD) : BI.Persistent (allReached (F := F) p) := by unfold allReached; infer_instance
instance allReached_storable (p : Dev nD) : BI.Storable (upEmb : UEmb _ 𝕄) (allReached (F := F) p) := by unfold allReached; infer_instance

/-- The landing slots of round `d` at device `p`, at any contents. -/
def oSlots (p : Dev nD) : Fin 4 → sProp 𝕄 := Fin.cases
  iprop((∃ X, owns (p : Thread nD τ) oLandLo fullShare X) ∗ ∃ X, owns (p : Thread nD τ) oLandHi fullShare X)
  fun r => iprop(∃ X, owns (p : Thread nD τ) (oLand r.succ) fullShare X)
def slots (p : Dev nD) (d : Fin 4) : sProp 𝕄 := iprop(oSlots p d ∗ ∃ X, owns (p : Thread nD τ) (lLand d) fullShare X)

instance oSlots_storable (p : Dev nD) (d : Fin 4) : BI.Storable (upEmb : UEmb _ 𝕄) (oSlots (F := F) p d) := by
  refine Fin.cases ?_ (fun r => ?_) d
  · show BI.Storable _ iprop((∃ X, owns (p : Thread nD τ) oLandLo fullShare X) ∗ ∃ X, owns (p : Thread nD τ) oLandHi fullShare X); infer_instance
  · show BI.Storable _ iprop(∃ X, owns (p : Thread nD τ) (oLand r.succ) fullShare X); infer_instance

/-- What the duty `d` of a cell of device `c` hands over. -/
def pay (c : Dev nD) : Cell → Fin 4 → sProp 𝕄
  | .sLo, _ => owns (c : Thread nD τ) oSendLo fullShare (sLo (st x 0 c).o)
  | .sHi, _ => owns (c : Thread nD τ) oSendHi fullShare (sHi (st x 0 c).o)
  | .sAll r, _ => owns (c : Thread nD τ) oSend fullShare (sAll (st x (r.val + 1) c).o)
  | .sLse r, _ => owns (c : Thread nD τ) lM fullShare (st x r.val c).l
  | .rLo, _ => owns (c : Thread nD τ) oLandLo fullShare (sLo (st x 0 (par 0 c)).o)
  | .rHi, _ => owns (c : Thread nD τ) oLandHi fullShare (sHi (st x 0 (par 0 c)).o)
  | .rAll r, _ => owns (c : Thread nD τ) (oLand r.succ) fullShare (sAll (st x (r.val + 1) (par (r.val + 1) c)).o)
  | .rLse r, _ => owns (c : Thread nD τ) (lLand r) fullShare (st x r.val (par r.val c)).l
  | .b0, d => iprop(slots (par d.val c) d ∗ allReached (par d.val c))
  | .b1, _ => iprop(emp)

instance pay_storable (c : Dev nD) (k : Cell) (d : Fin 4) : BI.Storable (upEmb : UEmb _ 𝕄) (pay x c k d) := by
  cases k <;> (unfold pay; try unfold slots) <;> infer_instance

/-- The schedule: one round on every cell. -/
def sched : Rounds.Schedule (GSem nD τ sig) (Fin 4) 𝕄 where
  duties g r := if r = 0 ∧ g.1.2 = .tc then (kind g.2).elim ∅ dts else ∅
  unitless _ := False
  amount g _ _ := (kind g.2).elim 1 amt
  payload g _ d := (kind g.2).elim iprop(emp) fun k => pay x g.1.1 k d
  amount_pos g _ _ _ := by
    cases h : kind g.2 with
    | none => exact Nat.one_pos
    | some k => exact amt_pos k

instance sched_storable (g : GSem nD τ sig) (r : ℕ) (d : Fin 4) : BI.Storable (upEmb : UEmb _ 𝕄) ((sched x).payload g r d) := by
  show BI.Storable _ ((kind g.2).elim iprop(emp) fun k => pay x g.1.1 k d)
  cases kind g.2 with
  | none => show BI.Storable _ iprop(emp); infer_instance
  | some k => exact pay_storable x g.1.1 k d

section Sched
variable (c : Dev nD) (k : Cell)

theorem duties_cell : (sched x).duties (cell c k) 0 = dts k := by
  show (if ((0 : ℕ) = 0 ∧ (c : Thread nD τ).2 = .tc) then (kind k.sem).elim ∅ dts else ∅) = _
  rw [if_pos ⟨rfl, rfl⟩, kind_sem]; rfl
theorem duties_later (g : GSem nD τ sig) (r : ℕ) (h : 1 ≤ r) : (sched x).duties g r = ∅ := if_neg fun h' => by omega
theorem amount_cell (d : Fin 4) : (sched x).amount (cell c k) 0 d = amt k := by
  show (kind k.sem).elim 1 amt = _
  rw [kind_sem]; rfl
theorem payload_cell (d : Fin 4) : (sched x).payload (cell c k) 0 d = pay x c k d := by
  show (kind k.sem).elim _ _ = _
  rw [kind_sem]; rfl
theorem expect_cell : (sched x).expect (cell c k) 0 = (dts k).card * amt k := by
  unfold Schedule.expect Schedule.amountOf
  rw [duties_cell, Finset.sum_congr rfl fun d _ => amount_cell x c k d, Finset.sum_const, smul_eq_mul]
theorem rest_cell : bigSep ((sched x).duties (cell c k) 0 \ ∅) (fun d => (sched x).payload (cell c k) 0 d) = bigSep (dts k) (pay x c k) := by
  rw [Finset.sdiff_empty, duties_cell]
  exact bigSep_congr fun d _ => payload_cell x c k d
end Sched

/-! ## What a device owes, and the order of the waits -/

/-- A duty of another device's cell. -/
abbrev Tok : Type := Cell × Fin 4

/-- What device `c` owes, the next first. -/
def owe (c : Dev nD) : List Tok → CellTallies nD τ sig Unit
  | [] => 0
  | t :: ts => owe c ts + tallyAt (cell (par (rnd t.1 t.2) c) t.1) () (amt t.1)

def toks4 : List Tok := [(.b1, 0), (.b1, 1), (.b1, 2), (.b1, 3)]
def toks3 : List Tok := (.rAll 2, 0) :: (.rLse 3, 0) :: toks4
def toks2 : List Tok := (.rAll 1, 0) :: (.rLse 2, 0) :: toks3
def toks1 : List Tok := (.rAll 0, 0) :: (.rLse 1, 0) :: toks2
def toks0 : List Tok := (.rHi, 0) :: (.rLse 0, 0) :: toks1
def toksB : List Tok := (.rLo, 0) :: toks0
def toksA : List Tok := (.b0, 0) :: (.b0, 1) :: (.b0, 2) :: (.b0, 3) :: toksB

def L (g : GSem nD τ sig) : Finset Unit := if g.1.2 = .tc then {()} else ∅
def lv (g : GSem nD τ sig) (_ : Unit) : ℕ := (kind g.2).elim 0 lvl

theorem L_of_ne (g : GSem nD τ sig) (h : g.1.2 ≠ .tc) : L g = ∅ := if_neg h
theorem L_tc (c : Dev nD) (sm : SemLoc sig) : L ((c : Thread nD τ), sm) = {()} := if_pos rfl

theorem owe_pos (c : Dev nD) (ts : List Tok) (g : GSem nD τ sig) (u : Unit) (h : 0 < owe c ts g u) :
    ∃ t ∈ ts, g = cell (par (rnd t.1 t.2) c) t.1 := by
  induction ts with
  | nil => exact absurd h (Nat.lt_irrefl 0)
  | cons t ts ih =>
    have h' : 0 < owe c ts g u + tallyAt (cell (par (rnd t.1 t.2) c) t.1) () (amt t.1) g u := h
    by_cases hg : g = cell (par (rnd t.1 t.2) c) t.1
    · exact ⟨t, List.mem_cons_self, hg⟩
    · rw [tallyAt_apply, if_neg fun e => hg e.1, Nat.add_zero] at h'
      obtain ⟨t', ht', e⟩ := ih h'
      exact ⟨t', List.mem_cons_of_mem _ ht', e⟩

/-- A device may wait on a semaphore below all it owes. -/
theorem mayWait (c : Dev nD) (sm : SemLoc sig) (ts : List Tok) (h : ∀ t ∈ ts, (kind sm).elim 0 lvl < lvl t.1) :
    (levAts L lv : sProp 𝕄) ⊢ MayWait (c : Thread nD τ) sm () (owe c ts) :=
  MayOwe.of_cut (L := L) (lev := lv) ((kind sm).elim 0 lvl) (fun p hp => by rw [Finset.mem_singleton.mp hp, L_tc]; exact Finset.mem_singleton_self _)
    (fun g u hg => by obtain ⟨t, -, rfl⟩ := owe_pos c ts g u hg; rw [L_tc]; exact Finset.mem_singleton_self _)
    (fun p hp => by rw [Finset.mem_singleton.mp hp]; exact le_rfl)
    (fun g u hg => by
      obtain ⟨t, ht, rfl⟩ := owe_pos c ts g u hg
      show _ < (kind t.1.sem).elim 0 lvl
      rw [kind_sem]; exact h t ht)

theorem mayWait_cell (c : Dev nD) (k : Cell) (ts : List Tok) (h : ∀ t ∈ ts, lvl k < lvl t.1) :
    (levAts L lv : sProp 𝕄) ⊢ MayWait (c : Thread nD τ) k.sem () (owe c ts) :=
  mayWait c k.sem ts (by rw [kind_sem]; exact h)

theorem kind_none {sm : SemLoc sig} (h : ∀ k : Cell, semNum sm ≠ k.num) : kind sm = none := by
  cases e : kind sm with
  | none => rfl
  | some k => exact absurd (by rw [← kind_eq e, sem_num]) (h k)

end Cert.KernelIdeal.Flash

end

end
-- ==== Proof.Rules.lean ====
/- Rules for the steps of a body, over buffers held by what is read through them: a load, a store, a local transfer and
   its wait, a transfer to another device, a signal, and a wait for all of a cell's duties. -/
module

public import proofs.«01_k».proof.Proof.Schedule

@[expose] public section

noncomputable section

namespace Cert.KernelIdeal.Flash

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] [Named F]

local notation "𝕄" => MT nD τ sig Unit (Elt F) ℕ UU ℕ

abbrev 𝒱₀ : Variants := Variants.none

/-- What a body is to end in. -/
abbrev Post (F : FTy → Type) := PUnit.{1} → sProp (MT nD τ sig Unit (Elt F) ℕ UU ℕ)

/-- Device `c` runs a body to `Q`. -/
abbrev run (c : Dev nD) (k : Body F) (Q : Post F) : sProp 𝕄 :=
  wp frame (wpE (defs₀ (F := F)) 𝒱₀ (c : Thread nD τ) none) Set.univ k Q

/-- A buffer, or a part of one, held whole by device `c` and read as `X`. -/
abbrev hold (c : Dev nD) {sp : Space} {sh : Shape} {e : EltTy} (m : Memref sig .tc sp sh e) (X : sh.Idx → Elt F e) : sProp 𝕄 :=
  owns (c : Thread nD τ) m fullShare X

variable {c : Dev nD} {Q : Post F}

/-! ## Loads and stores -/

theorem run_load {cs : CoreSpace} {s : Shape} {e : EltTy} {m : Memref sig .tc cs s e} {r : Rect s} {hl : m.view.LoadsAt r.toLoadRect}
    {k : (r.shape.Idx → Elt F e) → Body F} {X : s.Idx → Elt F e} :
    hold c m X ⊢ iprop((hold c m X -∗ run c (k fun i => X (r.emb i)) Q) -∗ run c (.op (.load m r.toLoadRect hl) k) Q) := by
  iintro H Hk
  unfold hold owns
  icases H with ⟨%f, %hf, H⟩
  iapply (wp_load 𝒱₀ (c : Thread nD τ) none Set.univ (m := m) (r := r.toLoadRect) (hl := hl) (f := f) (q := fullShare) (S := m.view.set)
    (View.setOn_subset_set _ _)) $$ [H]
  · iexact H
  iintro H
  rw [show m.view.readAt (Elt F) r.toLoadRect f = fun i => X (r.emb i) from by rw [← hf]; rfl]
  iapply Hk
  iexists f
  isplitr; · ipureintro; exact hf
  iexact H

/-- A load of a slot, through the whole buffer, of a part held by itself. -/
theorem run_load_slot {cs : CoreSpace} {s s' : Shape} {e : EltTy} {m : Memref sig .tc cs s e} {r : Rect s} (hr : ∀ a, r.stride a = 1)
    (hq : r.shape.Squeezes s') {hl : m.view.LoadsAt r.toLoadRect}
    {k : (r.shape.Idx → Elt F e) → Body F} {X : s'.Idx → Elt F e} (G : r.shape.Idx → Elt F e)
    (hG : ∀ y, G (Shape.reshapeEquiv hq.numel_eq y) = X y) :
    hold c ((m.slice r hr).squeeze s' hq) X
      ⊢ iprop((hold c ((m.slice r hr).squeeze s' hq) X -∗ run c (k G) Q) -∗ run c (.op (.load m r.toLoadRect hl) k) Q) := by
  iintro H Hk
  unfold hold owns
  icases H with ⟨%f, %hf, H⟩
  iapply (wp_load 𝒱₀ (c : Thread nD τ) none Set.univ (m := m) (r := r.toLoadRect) (hl := hl) (f := f) (q := fullShare)
    (S := ((m.slice r hr).squeeze s' hq).view.set) (by rw [Memref.set_view_squeeze]; exact subset_of_eq (View.set_slice m.view r).symm)) $$ [H]
  · iexact H
  iintro H
  rw [show m.view.readAt (Elt F) r.toLoadRect f = G from by
    funext i
    rw [← Equiv.apply_symm_apply (Shape.reshapeEquiv hq.numel_eq) i, hG, ← hf]; rfl]
  iapply Hk
  iexists f
  isplitr; · ipureintro; exact hf
  iexact H

theorem run_store {cs : CoreSpace} {s : Shape} {e : EltTy} {m : Memref sig .tc cs s e} {r : Rect s} {w : r.shape.Idx → Elt F e}
    {hx : (m.access r).Stores Finset.univ} {hm : Finset.univ = Finset.univ ∨ ∀ a, r.stride a = 1} {k : PUnit → Body F} {X : s.Idx → Elt F e} :
    hold c m X ⊢ iprop((hold c m (r.overlay X w) -∗ run c (k ⟨⟩) Q) -∗ run c (.op (.store m r w Finset.univ hx hm) k) Q) := by
  iintro H Hk
  unfold hold owns
  icases H with ⟨%f, %hf, H⟩
  iapply (wp_store 𝒱₀ (c : Thread nD τ) none Set.univ (m := m) (r := r) (hx := hx) (hm := hm) (f := f) (S := m.view.set)
    ((View.setOn_subset_set _ _).trans (m.view.set_slice_subset r))) $$ [H]
  · iexact H
  iintro H
  iapply Hk
  iexists _
  isplitr
  swap; · iexact H
  ipureintro
  funext j
  by_cases hj : j ∈ r.set
  · obtain ⟨i, rfl⟩ := r.exists_idx_of_mem hj
    change m.view.read (Elt F) _ (r.emb i) = r.overlay _ w (r.emb i)
    rw [Rect.overlay_emb]
    exact congrFun (View.read_write_univ (v := m.view.slice r) f w) i
  · rw [Rect.overlay_of_not_mem _ _ _ hj, ← hf, View.read_apply, View.read_apply]
    congr 1
    refine View.write_of_not_mem _ _ _ ?_
    rw [View.setOn_univ, View.set_slice, Finset.mem_map' m.view.emb]
    exact hj

/-! ## Transfers within the device -/

/-- Elements of a buffer that are copied out of, at contents `f`. -/
abbrev src (c : Dev nD) {sp : Space} {sh : Shape} {e : EltTy} (m : Memref sig .tc sp sh e) (f : m.view.ty.Contents (Elt F)) : sProp 𝕄 :=
  m.view.loc (c : Thread nD τ) ↦[m.view.set]{fullShare} f

/-- A transfer under way, of what `m` reads of `f` to `m'`. -/
abbrev flying (c : Dev nD) (sem : DmaSem sig) {sp sp' : Space} {sh : Shape} {e : EltTy} (m : Memref sig .tc sp sh e) (m' : Memref sig .tc sp' sh e)
    (f : m.view.ty.Contents (Elt F)) : sProp 𝕄 :=
  Flight (EC (F := F)) (c : Thread nD τ) (.dma sem) () m'.view.dmaCredit iprop(hold c m' (m.view.read (Elt F) f) ∗ src c m f)

theorem run_copy {sp sp' : Space} {s : Shape} {e : EltTy} {m : Memref sig .tc sp s e} {m' : Memref sig .tc sp' s e} {sem : DmaSem sig}
    {h1 : m.view.WordExact} {h2 : m'.view.WordExact} {h3 : DmaTarget.Typed (nD := nD) (τ := τ) (p := .tc) sp (.dma sem) (.here m')} {k : PUnit → Body F}
    {f : m.view.ty.Contents (Elt F)} {X : s.Idx → Elt F e} (hn : 0 < m'.view.dmaCredit) :
    iprop(src c m f ∗ hold c m' X ∗ semVal ((c : Thread nD τ), .dma sem) 0)
      ⊢ iprop((flying c sem m m' f -∗ run c (k ⟨⟩) Q) -∗ run c (.op (.enqueueDma m (.here m') (.dma sem) h1 h2 h3) k) Q) := by
  iintro ⟨Hs, Hd, Hv⟩ Hk
  unfold hold owns
  icases Hd with ⟨%g, -, Hd⟩
  iapply (wp_dmaLocal (EC (F := F)) 𝒱₀ (c : Thread nD τ) none (src := m) (dst := m') (sm := .dma sem) (fs := f) (q := fullShare) (Sd := m'.view.set) (fd := g)
    () m'.view.dmaCredit rfl hn subset_rfl) $$ [Hs Hd Hv]
  · isplitl [Hs]; · iexact Hs
    isplitl [Hd]; · iexact Hd
    iexact Hv
  iintro H
  iapply Hk
  iapply (Flight_mono (EC (F := F)) (c : Thread nD τ) ?_) $$ H
  iintro ⟨Hd, Hs⟩
  isplitr [Hs]
  · unfold hold owns
    iexists _
    isplitr
    swap; · iexact Hd
    ipureintro
    exact View.read_write_univ _ _
  · iexact Hs

/-- What device `c` still owes, whatever it has waited for. -/
def ow (c : Dev nD) (ts : List Tok) : sProp 𝕄 := iprop(∃ W, owes (c : Thread nD τ) (owe c ts) W)

theorem run_wait_copy {sp sp' : Space} {s : Shape} {e : EltTy} {m : Memref sig .tc sp s e} {m' : Memref sig .tc sp' s e} {sem : DmaSem sig}
    {sp'' : Space} {s'' : Shape} {e'' : EltTy} {m'' : Memref sig .tc sp'' s'' e''}
    {h1 : m''.view.WordExact} {h2 : m'.view.WordExact} {k : PUnit → Body F} {f : m.view.ty.Contents (Elt F)} (ts : List Tok)
    (h : ∀ t ∈ ts, (kind (.dma sem)).elim 0 lvl < lvl t.1) :
    iprop(flying c sem m m' f ∗ ow c ts ∗ levAts L lv)
      ⊢ iprop(((hold c m' (m.view.read (Elt F) f) ∗ src c m f ∗ semVal ((c : Thread nD τ), .dma sem) 0 ∗ ow c ts) -∗ run c (k ⟨⟩) Q)
        -∗ run c (.op (.waitDma2 sem m'' m' h1 h2) k) Q) := by
  unfold ow
  iintro ⟨Hf, ⟨%W, HO⟩, #Hlev⟩ Hk
  iapply (wp_waitLocalO (EC (F := F)) 𝒱₀ (c : Thread nD τ) none () rfl) $$ [Hf HO]
  · isplitl [Hf]; · iexact Hf
    isplitl [HO]; · iexact HO
    iapply (mayWait c (.dma sem) ts h); iexact Hlev
  iintro ⟨⟨Hd, Hs⟩, Hv, HO⟩
  iapply Hk
  isplitl [Hd]; · iexact Hd
  isplitl [Hs]; · iexact Hs
  isplitl [Hv]; · iexact Hv
  iexists _; iexact HO

/-! ## Between devices -/

section
variable (x : In F) (K : GSem nD τ sig → ℕ)

/-- What every device may consult: every cell's invariant, the levels, and that round 0 of its own cells is reached. -/
def ctx (c : Dev nD) : sProp 𝕄 :=
  iprop((bigSep Finset.univ fun ck : Dev nD × Cell => cellInv (ER (F := F)) (sched x) (K (cell ck.1 ck.2)) (cell ck.1 ck.2)) ∗ levAts L lv ∗ allReached c)
instance ctx_persistent (c : Dev nD) : BI.Persistent (ctx x K c) := by unfold ctx; infer_instance

theorem reached_of (p : Dev nD) (k : Cell) : (allReached p : sProp 𝕄) ⊢ reached (ER (F := F)) (cell p k) 0 := by
  unfold allReached
  exact bigSep_elim (Finset.mem_univ k)
theorem ctx_inv (d : Dev nD) (k : Cell) : ctx x K c ⊢ cellInv (ER (F := F)) (sched x) (K (cell d k)) (cell d k) := by
  have h : (bigSep Finset.univ fun ck : Dev nD × Cell => (cellInv (ER (F := F)) (sched x) (K (cell ck.1 ck.2)) (cell ck.1 ck.2) : sProp 𝕄))
      ⊢ cellInv (ER (F := F)) (sched x) (K (cell d k)) (cell d k) := bigSep_elim (Finset.mem_univ (d, k))
  unfold ctx
  iintro ⟨#H, -, -⟩
  iapply h
  iexact H
theorem ctx_lev : ctx x K c ⊢ levAts L lv := by
  unfold ctx
  iintro ⟨-, #H, -⟩
  iexact H
theorem ctx_reached (k : Cell) : ctx x K c ⊢ reached (ER (F := F)) (cell c k) 0 := by
  unfold ctx
  iintro ⟨-, -, #H⟩
  iapply (reached_of c k)
  iexact H

/-- The token of a duty device `c` performs on another device's cell, -/
def tk (c : Dev nD) (t : Tok) : sProp 𝕄 := dutyTok (ER (F := F)) (cell (par (rnd t.1 t.2) c) t.1) 0 t.2
/-- and of the duty of a sending cell of its own. -/
def tkS (c : Dev nD) (k : Cell) : sProp 𝕄 := dutyTok (ER (F := F)) (cell c k) 0 0
/-- A device's place on a cell of its own, and its credit there. -/
def pos (c : Dev nD) (n : ℕ) (k : Cell) : sProp 𝕄 := atPos (ER (F := F)) (cell c k) n ∅ 0
def crd (c : Dev nD) (k : Cell) : sProp 𝕄 := cred (tallyAt (cell c k) () ((dts k).card * amt k))

/-- A signal of a partner's barrier. -/
theorem run_signal {sem : Sem sig} {k : PUnit → Body F} (kd : Cell) (hs : kd.sem = .reg sem) (ha : amt kd = 1) (d : Fin 4) (hd : d ∈ dts kd)
    (p : Dev nD) (hp : p = par (rnd kd d) c) (ts : List Tok) :
    iprop(ctx x K c ∗ ow c ((kd, d) :: ts) ∗ tk c (kd, d) ∗ pay x p kd d ∗ reached (ER (F := F)) (cell p kd) 0)
      ⊢ iprop((ow c ts -∗ run c (k ⟨⟩) Q) -∗ run c (.op (.semSignal (Dev.tc p) sem (1#32).toInt) k) Q) := by
  subst hp
  have hc : cell (par (rnd kd d) c) kd = ((par (rnd kd d) c : Thread nD τ), .reg sem) := by rw [cell, hs]
  have hi := ctx_inv (c := c) x K (par (rnd kd d) c) kd
  have hO : owe c ((kd, d) :: ts) = owe c ts + tallyAt (cell (par (rnd kd d) c) kd) () (amt kd) := rfl
  have hdt := duties_cell x (par (rnd kd d) c) kd
  have ham := amount_cell x (par (rnd kd d) c) kd d
  unfold ow tk
  rw [← payload_cell x]
  rw [hc] at hi hO hdt ham ⊢
  iintro ⟨#Hctx, ⟨%W, HO⟩, Ht, Hp, #Hr⟩ Hk
  ihave #HI := hi $$ Hctx
  iapply (Rounds.wp_signal 𝒱₀ (ER (F := F)) (sched x) (c : Thread nD τ) none (dst := (par (rnd kd d) c : Thread nD τ)) (sem := sem) (r := 0) (d := d)
    (κ := K ((par (rnd kd d) c : Thread nD τ), .reg sem)) (k' := 1) (O₀ := owe c ((kd, d) :: ts))
    (by rw [hdt]; exact hd) (by rw [ham]; exact ha) () (owe c ts) (by rw [hO, ha])) $$ [HO Ht Hp]
  · isplitr; · iexact HI
    isplitl [HO]; · iexact HO
    isplitl [Ht]; · iexact Ht
    isplitl [Hp]; · iexact Hp
    iexact Hr
  iintro HO
  iapply Hk
  iexists W; iexact HO

/-- A transfer to a partner: the cells `kS` of its sending and `kR` of its landing. -/
theorem run_send {sp sp' : Space} {s : Shape} {e : EltTy} {m : Memref sig .tc sp s e} {m' : Memref sig .tc sp' s e} (kS kR : Cell) {sS sR : SemLoc sig}
    (hS : kS.sem = sS) (hR : kR.sem = sR) (p : Dev nD) (hp : p = par (rnd kR 0) c) {hsc : m'.view.ref.isScScratch = false}
    {h1 : m.view.WordExact} {h2 : m'.view.WordExact} {h3 : DmaTarget.Typed (nD := nD) (τ := τ) (p := .tc) sp sR (.remote (Dev.tc p) m' sS hsc)}
    {k : PUnit → Body F} {X : s.Idx → Elt F e} (hdS : dts kS = {0}) (hdR : dts kR = {0})
    (hN : m'.view.amount sR = amt kR) (ha : amt kS = amt kR)
    (hpS : pay x c kS 0 = hold c m X) (hpR : pay x p kR 0 = hold p m' X) (ts : List Tok) :
    iprop(ctx x K c ∗ ow c ((kR, 0) :: ts) ∗ hold c m X ∗ (∃ Y, hold p m' Y) ∗ tkS c kS ∗ tk c (kR, 0) ∗ reached (ER (F := F)) (cell p kR) 0)
      ⊢ iprop(((crd c kS ∗ ow c ts) -∗ run c (k ⟨⟩) Q)
        -∗ run c (.op (.enqueueDma m (.remote (Dev.tc p) m' sS hsc) sR h1 h2 h3) k) Q) := by
  subst hS hR hp
  have hiS := ctx_inv (c := c) x K c kS
  have hiR := ctx_inv (c := c) x K (par (rnd kR 0) c) kR
  have hrS := ctx_reached (c := c) x K kS
  unfold ow tk tkS hold crd owns
  rw [hdS, Finset.card_singleton, Nat.one_mul, ha]
  iintro ⟨#Hctx, ⟨%W, HO⟩, ⟨%f, %hf, Hs⟩, ⟨%Y, %g, -, Hd⟩, HtS, HtR, #Hr⟩ Hk
  ihave #HIS := hiS $$ Hctx
  ihave #HIR := hiR $$ Hctx
  ihave #HrS := hrS $$ Hctx
  iapply (Rounds.wp_send_pointsTo 𝒱₀ (ER (F := F)) (sched x) (c : Thread nD τ) none (c' := (par (rnd kR 0) c : Thread nD τ)) (src := m) (dst := m')
      (sS := kS.sem) (sem := kR.sem) (q := fullShare) (fs := f) (fd := g) (κ₁ := K (cell c kS)) (κ₂ := K (cell (par (rnd kR 0) c) kR))
      (r₁ := 0) (r₂ := 0) (d₁ := 0) (d₂ := 0) (O₀ := owe c ((kR, 0) :: ts)) (W := W)
      (by rw [duties_cell, hdS]; exact Finset.mem_singleton_self _) (by rw [duties_cell, hdR]; exact Finset.mem_singleton_self _)
      () () (amt kR) hN ((amount_cell x c kS 0).trans ha) (amount_cell x _ kR 0) (owe c ts) rfl
      (by
        rw [payload_cell, hpS]; unfold hold owns
        iintro H; iexists f; isplitr; · ipureintro; exact hf
        iexact H)
      (by
        rw [payload_cell, hpR]; unfold hold owns
        iintro H; iexists _; isplitr
        swap; · iexact H
        ipureintro; rw [View.read_write_univ, hf])) $$ [Hs Hd HO HtS HtR]
  · isplitr; · iexact HIS
    isplitr; · iexact HIR
    isplitl [Hs]; · iexact Hs
    isplitl [Hd]; · iexact Hd
    isplitl [HO]; · iexact HO
    isplitl [HtS]; · iexact HtS
    isplitr; · iexact HrS
    isplitl [HtR]; · iexact HtR
    iexact Hr
  iintro ⟨Hc, HO⟩
  iapply Hk
  isplitl [Hc]; · iexact Hc
  iexists W; iexact HO

set_option maxRecDepth 8192 in
/-- A wait for all the duties of a cell. -/
theorem run_wait {w : TpuEff nD τ sig (Elt F) Λ₀ .tc PUnit} {k' : ℕ} (kd : Cell) {sm : SemLoc sig} (hs : kd.sem = sm)
    (hw : ∀ K : PUnit → sProp 𝕄, wpE (defs₀ (F := F)) 𝒱₀ (c : Thread nD τ) none Set.univ w K = waitSpec (c : Thread nD τ) Set.univ sm k' K)
    (hk : k' = (dts kd).card * amt kd) {k : PUnit → Body F} (ts : List Tok) (h : ∀ t ∈ ts, lvl kd < lvl t.1) :
    iprop(ctx x K c ∗ ow c ts ∗ pos c 0 kd ∗ crd c kd)
      ⊢ iprop(((ow c ts ∗ pos c 1 kd ∗ bigSep (dts kd) (pay x c kd)) -∗ run c (k ⟨⟩) Q) -∗ run c (.op w k) Q) := by
  subst hs; subst hk
  have hi := ctx_inv (c := c) x K c kd
  have hl := @ctx_lev F _ _ c x K
  have hm := mayWait_cell (F := F) c kd ts h
  have hr := rest_cell x c kd
  unfold ow pos crd
  iintro ⟨#Hctx, ⟨%W, HO⟩, Hat, Hc⟩ Hk
  ihave #HI := hi $$ Hctx
  ihave #Hlev := hl $$ Hctx
  iapply (Rounds.wp_wait_rest_token 𝒱₀ (ER (F := F)) (sched x) (c : Thread nD τ) none (κ := K (cell c kd)) hw (Set.mem_univ _) ()
      (O := owe c ts) (W := W) (R := 0) (m := 0) (T := ∅) ((Nat.zero_add _).trans (expect_cell x c kd).symm)) $$ [Hc HO Hat]
  · isplitr; · iexact HI
    isplitl [Hc]; · iexact Hc
    isplitl [HO]; · iexact HO
    isplitr; · iapply hm; iexact Hlev
    iexact Hat
  iintro ⟨HO, Hat, -, Hpay⟩
  ihave Hp := (Entails.of_eq hr) $$ Hpay
  iapply Hk
  isplitl [HO]; · iexists _; iexact HO
  isplitl [Hat]; · iexact Hat
  iexact Hp

end

end Cert.KernelIdeal.Flash

end

end
-- ==== Proof.Local.lean ====
/- The steps a device takes by itself: starting its transfers of keys and values, a row's attention, staging outputs,
   merging what has landed, writing the result. -/
module

public import proofs.«01_k».proof.Proof.Rules
public import Idealize.ShloMosaic.Lib.VecWindow

@[expose] public section

noncomputable section

namespace Cert.KernelIdeal.Flash

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] [Named F]

local notation "𝕄" => MT nD τ sig Unit (Elt F) ℕ UU ℕ

variable {c : Dev nD} {Q : Post F}

/-! ## A part of a buffer, by itself -/

theorem run_load_part {cs : CoreSpace} {s : Shape} {e : EltTy} {m : Memref sig .tc cs s e} {r : Rect s} (hr : ∀ a, r.stride a = 1)
    {hl : m.view.LoadsAt r.toLoadRect} {k : (r.shape.Idx → Elt F e) → Body F} {X : r.shape.Idx → Elt F e} :
    hold c (m.slice r hr) X ⊢ iprop((hold c (m.slice r hr) X -∗ run c (k X) Q) -∗ run c (.op (.load m r.toLoadRect hl) k) Q) := by
  iintro H Hk
  unfold hold owns
  icases H with ⟨%f, %hf, H⟩
  iapply (wp_load 𝒱₀ (c : Thread nD τ) none Set.univ (m := m) (r := r.toLoadRect) (hl := hl) (f := f) (q := fullShare)
    (S := (m.slice r hr).view.set) (subset_of_eq (View.set_slice m.view r).symm)) $$ [H]
  · iexact H
  iintro H
  rw [show m.view.readAt (Elt F) r.toLoadRect f = X from hf]
  iapply Hk
  iexists f
  isplitr; · ipureintro; exact hf
  iexact H

theorem run_store_part {cs : CoreSpace} {s : Shape} {e : EltTy} {m : Memref sig .tc cs s e} {r : Rect s} (hr : ∀ a, r.stride a = 1)
    {w : r.shape.Idx → Elt F e} {hx : (m.access r).Stores Finset.univ} {hm : Finset.univ = Finset.univ ∨ ∀ a, r.stride a = 1}
    {k : PUnit → Body F} {X : r.shape.Idx → Elt F e} :
    hold c (m.slice r hr) X ⊢ iprop((hold c (m.slice r hr) w -∗ run c (k ⟨⟩) Q) -∗ run c (.op (.store m r w Finset.univ hx hm) k) Q) := by
  iintro H Hk
  unfold hold owns
  icases H with ⟨%f, %hf, H⟩
  iapply (wp_store 𝒱₀ (c : Thread nD τ) none Set.univ (m := m) (r := r) (hx := hx) (hm := hm) (f := f) (S := (m.slice r hr).view.set)
    (View.setOn_subset_set _ _)) $$ [H]
  · iexact H
  iintro H
  iapply Hk
  iexists _
  isplitr
  swap; · iexact H
  ipureintro
  exact View.read_write_univ (v := m.view.slice r) f w

/-! ## Contents under a rectangle -/

theorem overlay_at {s : Shape} {α : Type} (r : Rect s) (X : s.Idx → α) (w : r.shape.Idx → α) {i : s.Idx} (z : r.shape.Idx) (h : r.emb z = i) :
    r.overlay X w i = w z := by rw [← h, Rect.overlay_emb]

/-- A store that covers everything. -/
theorem overlay_full {s : Shape} {α : Type} {off : Fin s.rank → ℕ} (inb : ∀ a, off a + s.size a ≤ s.size a) (X w : s.Idx → α) :
    (Rect.unit off s.size inb).overlay X w = w :=
  funext fun i => overlay_at (Rect.unit off s.size inb) X w (i := i) i (Rect.emb_unit_full inb i)

theorem load_full {s : Shape} {α : Type} {off : Fin s.rank → ℕ} (inb : ∀ a, off a + s.size a ≤ s.size a) (X : s.Idx → α) :
    (fun i => X ((Rect.unit off s.size inb).emb i)) = X :=
  funext fun i => congrArg X (Rect.emb_unit_full inb i)

theorem reshape_cons {n : ℕ} {d : Fin n → ℕ} {α : Type} (X : (⟨n, d⟩ : Shape).Idx → α) (h) (y : (⟨n, d⟩ : Shape).Idx)
    (G : (⟨n + 1, Matrix.vecCons 1 d⟩ : Shape).Idx → α) (hG : ∀ z, G (Fin.cons (α := fun a => Fin ((Matrix.vecCons 1 d : Fin (n + 1) → ℕ) a)) (0 : Fin 1) z) = X z) :
    G (Shape.reshapeEquiv h y) = X y := by
  rw [Shape.reshapeEquiv_cons_one]; exact hG y

section
variable (x : In F)

theorem krow_slot (c : Dev nD) (j : Fin 32) (y : S512x128.Idx) :
    krow x c j (Shape.reshapeEquiv squeezes_S1x512x128_S512x128.numel_eq y) = kblk x c j y :=
  reshape_cons (d := ![512, 128]) (kblk x c j) _ y (krow x c j) fun z => congrArg (kblk x c j) (i2_eta z)
theorem vrow_slot (c : Dev nD) (j : Fin 32) (y : S512x128.Idx) :
    vrow x c j (Shape.reshapeEquiv squeezes_S1x512x128_S512x128.numel_eq y) = vblk x c j y :=
  reshape_cons (d := ![512, 128]) (vblk x c j) _ y (vrow x c j) fun z => congrArg (vblk x c j) (i2_eta z)
theorem lrow_slot (l : Vec F S32x128 .f32) (y : S32x128.Idx) :
    lrow l (Shape.reshapeEquiv squeezes_S1x32x128_S32x128.numel_eq y) = l y :=
  reshape_cons (d := ![32, 128]) l _ y (lrow l) fun z => congrArg l (i2_eta z)
theorem hrow_slot (s : Vec F S16x32x128 .bf16) (y : S16x32x128.Idx) :
    hrow s (Shape.reshapeEquiv squeezes_S1x16x32x128_S16x32x128.numel_eq y) = s y :=
  reshape_cons (d := ![16, 32, 128]) s _ y (hrow s) fun z => congrArg s (i3_eta z)
theorem arow_slot (s : Vec F S32x32x128 .bf16) (y : S32x32x128.Idx) :
    arow s (Shape.reshapeEquiv squeezes_S1x32x32x128_S32x32x128.numel_eq y) = s y :=
  reshape_cons (d := ![32, 32, 128]) s _ y (arow s) fun z => congrArg s (i3_eta z)

/-! ## The transfers of keys and values -/

/-- The rows from `a` on, `n` of them. -/
def rng (a n : ℕ) : Finset (Fin 32) := Finset.univ.filter fun j => a ≤ j.val ∧ j.val < a + n

theorem rng_zero (a : ℕ) : rng a 0 = ∅ := by
  refine Finset.filter_eq_empty_iff.mpr fun j _ => by omega
theorem rng_succ (a n : ℕ) (h : a < 32) : rng a (n + 1) = insert ⟨a, h⟩ (rng (a + 1) n) := by
  ext j; simp only [rng, Finset.mem_filter, Finset.mem_univ, true_and, Finset.mem_insert, Fin.ext_iff]; omega
theorem not_mem_rng (a n : ℕ) (h : a < 32) : (⟨a, h⟩ : Fin 32) ∉ rng (a + 1) n := by
  simp only [rng, Finset.mem_filter, Finset.mem_univ, true_and]; omega

theorem bigSep_rng_succ (a n : ℕ) (h : a < 32) (Φ : Fin 32 → sProp 𝕄) :
    bigSep (rng a (n + 1)) Φ = iprop(Φ ⟨a, h⟩ ∗ bigSep (rng (a + 1) n) Φ) := by
  rw [rng_succ a n h, bigSep_insert (not_mem_rng a n h)]
  rfl
theorem bigSep_rng_split (Φ : Fin 32 → sProp 𝕄) :
    bigSep Finset.univ Φ = iprop(bigSep (rng 0 16) Φ ∗ bigSep (rng 16 16) Φ) := by
  rw [show (Finset.univ : Finset (Fin 32)) = rng 0 16 ∪ rng 16 16 from by decide, bigSep_union (by decide)]
  rfl

/-- The buffers of a row's two transfers, before, -/
def idle (c : Dev nD) (j : Fin 32) : sProp 𝕄 :=
  iprop((src c (blk kM j c) (x.k c) ∗ (∃ X, hold c (kvRow khM j) X) ∗ semVal ((c : Thread nD τ), .dma (sem32 cc0_scratch7 j)) 0)
    ∗ (src c (blk vM j c) (x.v c) ∗ (∃ X, hold c (kvRow vhM j) X) ∗ semVal ((c : Thread nD τ), .dma (sem32 cc0_scratch8 j)) 0))
/-- and on the way. -/
def busy (c : Dev nD) (j : Fin 32) : sProp 𝕄 :=
  iprop(flying c (sem32 cc0_scratch7 j) (blk kM j c) (kvRow khM j) (x.k c) ∗ flying c (sem32 cc0_scratch8 j) (blk vM j c) (kvRow vhM j) (x.v c))

theorem run_start (c : Dev nD) (j : Fin 32) {k : Body F} :
    idle x c j ⊢ iprop((busy x c j -∗ run c k Q) -∗ run c (start c j k) Q) := by
  unfold idle busy start
  iintro ⟨⟨Hs, ⟨%X, Hd⟩, Hv⟩, ⟨Hs', ⟨%X', Hd'⟩, Hv'⟩⟩ Hk
  iapply (run_copy (View.dmaCredit_pos _ (by decide))) $$ [Hs Hd Hv]
  · isplitl [Hs]; · iexact Hs
    isplitl [Hd]; · iexact Hd
    iexact Hv
  iintro H1
  iapply (run_copy (View.dmaCredit_pos _ (by decide))) $$ [Hs' Hd' Hv']
  · isplitl [Hs']; · iexact Hs'
    isplitl [Hd']; · iexact Hd'
    iexact Hv'
  iintro H2
  iapply Hk
  isplitl [H1]; · iexact H1
  iexact H2

theorem run_starts (c : Dev nD) (n a : ℕ) (h : a + n ≤ 32) {k : Body F} :
    bigSep (rng a n) (idle x c) ⊢ iprop((bigSep (rng a n) (busy x c) -∗ run c k Q) -∗ run c (starts c n a h k) Q) := by
  induction n generalizing a k with
  | zero =>
    unfold starts
    rw [rng_zero]
    iintro H Hk
    iapply Hk
    iexact H
  | succ n ih =>
    have hi := ih (a + 1) (by omega) (k := k)
    unfold starts
    rw [bigSep_rng_succ a n (by omega), bigSep_rng_succ a n (by omega)]
    iintro ⟨H, Hr⟩ Hk
    iapply (run_start x c ⟨a, _⟩) $$ [H]
    · iexact H
    iintro H
    iapply hi $$ [Hr]
    · iexact Hr
    iintro Hr
    iapply Hk
    isplitl [H]; · iexact H
    iexact Hr

/-! ## A row's attention -/

/-- The buffers of a row's two transfers, after. -/
def done (c : Dev nD) (j : Fin 32) : sProp 𝕄 :=
  iprop((src c (blk kM j c) (x.k c) ∗ hold c (kvRow khM j) (kblk x c j) ∗ semVal ((c : Thread nD τ), .dma (sem32 cc0_scratch7 j)) 0)
    ∗ (src c (blk vM j c) (x.v c) ∗ hold c (kvRow vhM j) (vblk x c j) ∗ semVal ((c : Thread nD τ), .dma (sem32 cc0_scratch8 j)) 0))

/-- The outputs' first `n` rows are in place, -/
def partO (c : Dev nD) (n : ℕ) : sProp 𝕄 := iprop(∃ f, ⌜∀ i, (i 0).val < n → f i = o0 x c i⌝ ∗ hold c oM f)
/-- and the log-sum-exps' first `n` columns. -/
def partL (c : Dev nD) (n : ℕ) : sProp 𝕄 :=
  iprop(∃ f, ⌜∀ i, (i 1).val < n ∨ 32 ≤ (i 1).val → f i = l0 x c i⌝ ∗ hold c lM f)

theorem kind_local7 (j : Fin 32) : kind (.dma (sem32 cc0_scratch7 j)) = none :=
  kind_none fun k => by
    rw [show semNum (.dma (sem32 cc0_scratch7 j)) = (true, 2 + j.val) from by revert j; decide]
    revert j k; decide
theorem kind_local8 (j : Fin 32) : kind (.dma (sem32 cc0_scratch8 j)) = none :=
  kind_none fun k => by
    rw [show semNum (.dma (sem32 cc0_scratch8 j)) = (true, 34 + j.val) from by revert j; decide]
    revert j k; decide

theorem partO_next (c : Dev nD) (j : Fin 32) (f : Vec F S32x32x128 .f32) (hf : ∀ i, (i 0).val < j.val → f i = o0 x c i) (i : S32x32x128.Idx)
    (hi : (i 0).val < j.val + 1) : (rowR j).overlay f (k0_pay6 (qrow x c j) (krow x c j) (vrow x c j)) i = o0 x c i := by
  by_cases h : (i 0).val = j.val
  · have hj : i 0 = j := Fin.ext h
    rw [overlay_at (rowR j) f _ (i3 (0 : Fin 1) (i 1) (i 2)) (funext fun a => Fin.ext (by
      rw [Rect.emb_apply]
      match a with
      | ⟨0, _⟩ => show j.val + 1 * 0 = (i 0).val; omega
      | ⟨1, _⟩ => show 0 + 1 * (i 1).val = (i 1).val; omega
      | ⟨2, _⟩ => show 0 + 1 * (i 2).val = (i 2).val; omega))]
    unfold o0
    rw [hj]
  · rw [Rect.overlay_of_not_mem _ _ _ (fun hm => h (by
      have := Rect.mem_set_unit.mp hm 0
      change j.val ≤ (i 0).val ∧ (i 0).val < j.val + 1 at this
      omega))]
    exact hf i (by omega)

theorem partL_next (c : Dev nD) (j : Fin 32) (f : Vec F S32x128 .f32) (hf : ∀ i, (i 1).val < j.val ∨ 32 ≤ (i 1).val → f i = l0 x c i) (i : S32x128.Idx)
    (hi : (i 1).val < j.val + 1 ∨ 32 ≤ (i 1).val) : (colR j).overlay f (k0_pay7 (qrow x c j) (krow x c j)) i = l0 x c i := by
  have hj32 := j.isLt
  by_cases h : (i 1).val = j.val
  · rw [overlay_at (colR j) f _ (i2 (i 0) (0 : Fin 1)) (funext fun a => Fin.ext (by
      rw [Rect.emb_apply]
      match a with
      | ⟨0, _⟩ => show 0 + 1 * (i 0).val = (i 0).val; omega
      | ⟨1, _⟩ => show j.val + 1 * 0 = (i 1).val; omega))]
    unfold l0
    rw [dif_pos (by omega), show (⟨(i 1).val, by omega⟩ : Fin 32) = j from Fin.ext h]
  · rw [Rect.overlay_of_not_mem _ _ _ (fun hm => h (by
      have := Rect.mem_set_unit.mp hm 1
      change j.val ≤ (i 1).val ∧ (i 1).val < j.val + 1 at this
      omega))]
    exact hf i (by omega)

theorem run_iter (c : Dev nD) (qM : Memref sig .tc .vmem S32x32x128 .f32) (j : Fin 32) (ts : List Tok) (h : ∀ t ∈ ts, 0 < lvl t.1) {k : Body F} :
    iprop(busy x c j ∗ levAts L lv ∗ ow c ts ∗ hold c qM (x.q c) ∗ partO x c j.val ∗ partL x c j.val)
      ⊢ iprop(((done x c j ∗ ow c ts ∗ hold c qM (x.q c) ∗ partO x c (j.val + 1) ∗ partL x c (j.val + 1)) -∗ run c k Q)
        -∗ run c (iter qM c j k) Q) := by
  unfold busy done iter partO partL
  iintro ⟨⟨H1, H2⟩, #Hl, HO, Hq, ⟨%f, %hf, Ho⟩, ⟨%g, %hg, Hlse⟩⟩ Hk
  iapply (run_wait_copy ts (by rw [kind_local7]; exact h)) $$ [H1 HO]
  · isplitl [H1]; · iexact H1
    isplitl [HO]; · iexact HO
    iexact Hl
  iintro ⟨Hd1, Hs1, Hv1, HO⟩
  iapply (run_wait_copy ts (by rw [kind_local8]; exact h)) $$ [H2 HO]
  · isplitl [H2]; · iexact H2
    isplitl [HO]; · iexact HO
    iexact Hl
  iintro ⟨Hd2, Hs2, Hv2, HO⟩
  iapply (run_load (m := qM)) $$ [Hq]
  · iexact Hq
  iintro Hq
  iapply (run_load_slot (fun _ => rfl) _ (krow x c j) (krow_slot x c j)) $$ [Hd1]
  · iexact Hd1
  iintro Hd1
  iapply (run_load_slot (fun _ => rfl) _ (vrow x c j) (vrow_slot x c j)) $$ [Hd2]
  · iexact Hd2
  iintro Hd2
  iapply run_load $$ [Ho]
  · iexact Ho
  iintro Ho
  iapply run_store $$ [Ho]
  · iexact Ho
  iintro Ho
  iapply run_load $$ [Hlse]
  · iexact Hlse
  iintro Hlse
  iapply run_store $$ [Hlse]
  · iexact Hlse
  iintro Hlse
  iapply Hk
  isplitl [Hd1 Hs1 Hv1 Hd2 Hs2 Hv2]
  · isplitl [Hd1 Hs1 Hv1]
    · isplitl [Hs1]; · iexact Hs1
      isplitl [Hd1]; · iexact Hd1
      iexact Hv1
    · isplitl [Hs2]; · iexact Hs2
      isplitl [Hd2]; · iexact Hd2
      iexact Hv2
  isplitl [HO]; · iexact HO
  isplitl [Hq]; · iexact Hq
  isplitl [Ho]
  · iexists _
    isplitr
    swap; · iexact Ho
    ipureintro
    exact partO_next x c j f hf
  · iexists _
    isplitr
    swap; · iexact Hlse
    ipureintro
    exact partL_next x c j g hg

theorem run_iters (c : Dev nD) (qM : Memref sig .tc .vmem S32x32x128 .f32) (ts : List Tok) (ht : ∀ t ∈ ts, 0 < lvl t.1) (n a : ℕ) (h : a + n ≤ 32) {k : Body F} :
    iprop(bigSep (rng a n) (busy x c) ∗ levAts L lv ∗ ow c ts ∗ hold c qM (x.q c) ∗ partO x c a ∗ partL x c a)
      ⊢ iprop(((bigSep (rng a n) (done x c) ∗ ow c ts ∗ hold c qM (x.q c) ∗ partO x c (a + n) ∗ partL x c (a + n)) -∗ run c k Q)
        -∗ run c (iters qM c n a h k) Q) := by
  induction n generalizing a k with
  | zero =>
    unfold iters
    rw [rng_zero, Nat.add_zero]
    iintro ⟨H, -, HO, Hq, Ho, Hl⟩ Hk
    iapply Hk
    isplitl [H]; · iexact H
    isplitl [HO]; · iexact HO
    isplitl [Hq]; · iexact Hq
    isplitl [Ho]; · iexact Ho
    iexact Hl
  | succ n ih =>
    have hi := ih (a + 1) (by omega) (k := k)
    unfold iters
    rw [bigSep_rng_succ a n (by omega), bigSep_rng_succ a n (by omega), show a + (n + 1) = a + 1 + n from by omega]
    iintro ⟨⟨H, Hr⟩, #Hlev, HO, Hq, Ho, Hl⟩ Hk
    iapply (run_iter x c qM ⟨a, _⟩ ts ht) $$ [H HO Hq Ho Hl]
    · isplitl [H]; · iexact H
      isplitr; · iexact Hlev
      isplitl [HO]; · iexact HO
      isplitl [Hq]; · iexact Hq
      isplitl [Ho]; · iexact Ho
      iexact Hl
    iintro ⟨H, HO, Hq, Ho, Hl⟩
    iapply hi $$ [Hr HO Hq Ho Hl]
    · isplitl [Hr]; · iexact Hr
      isplitr; · iexact Hlev
      isplitl [HO]; · iexact HO
      isplitl [Hq]; · iexact Hq
      isplitl [Ho]; · iexact Ho
      iexact Hl
    iintro ⟨Hr, HO, Hq, Ho, Hl⟩
    iapply Hk
    isplitl [H Hr]
    · isplitl [H]; · iexact H
      iexact Hr
    isplitl [HO]; · iexact HO
    isplitl [Hq]; · iexact Hq
    isplitl [Ho]; · iexact Ho
    iexact Hl

/-- The cleared table has all its later columns in place. -/
theorem run_clear (c : Dev nD) {X : Vec F S32x128 .f32} {k : Body F} :
    hold c lM X ⊢ iprop((partL x c 0 -∗ run c k Q) -∗ run c (clear k) Q) := by
  unfold clear partL
  iintro H Hk
  iapply run_load $$ [H]
  · iexact H
  iintro H
  iapply run_store $$ [H]
  · iexact H
  iintro H
  iapply Hk
  iexists _
  isplitr
  swap; · iexact H
  ipureintro
  intro i hi
  rw [overlay_full]
  unfold l0
  rw [dif_neg (by omega)]

end

/-! ## Staging -/

theorem run_stageLo (c : Dev nD) {O : Vec F S32x32x128 .f32} {k : Body F} :
    iprop(hold c oM O ∗ ∃ X, hold c oSendLo X) ⊢ iprop(((hold c oM O ∗ hold c oSendLo (sLo O)) -∗ run c k Q) -∗ run c (stageLo k) Q) := by
  unfold stageLo
  iintro ⟨H, ⟨%X, Hs⟩⟩ Hk
  iapply run_load $$ [H]
  · iexact H
  iintro H
  iapply (run_load_part (fun _ => rfl)) $$ [Hs]
  · iexact Hs
  iintro Hs
  iapply (run_store_part (fun _ => rfl)) $$ [Hs]
  · iexact Hs
  iintro Hs
  iapply Hk
  isplitl [H]; · iexact H
  iexact Hs

theorem run_stageHi (c : Dev nD) {O : Vec F S32x32x128 .f32} {k : Body F} :
    iprop(hold c oM O ∗ ∃ X, hold c oSendHi X) ⊢ iprop(((hold c oM O ∗ hold c oSendHi (sHi O)) -∗ run c k Q) -∗ run c (stageHi k) Q) := by
  unfold stageHi
  iintro ⟨H, ⟨%X, Hs⟩⟩ Hk
  iapply run_load $$ [H]
  · iexact H
  iintro H
  iapply (run_load_part (fun _ => rfl)) $$ [Hs]
  · iexact Hs
  iintro Hs
  iapply (run_store_part (fun _ => rfl)) $$ [Hs]
  · iexact Hs
  iintro Hs
  iapply Hk
  isplitl [H]; · iexact H
  iexact Hs

theorem run_stageAll (c : Dev nD) {O : Vec F S32x32x128 .f32} {k : Body F} :
    iprop(hold c oM O ∗ ∃ X, hold c oSend X) ⊢ iprop(((hold c oM O ∗ hold c oSend (sAll O)) -∗ run c k Q) -∗ run c (stageAll k) Q) := by
  unfold stageAll
  iintro ⟨H, ⟨%X, Hs⟩⟩ Hk
  iapply run_load $$ [H]
  · iexact H
  iintro H
  iapply (run_load_part (fun _ => rfl)) $$ [Hs]
  · iexact Hs
  iintro Hs
  iapply (run_store_part (fun _ => rfl)) $$ [Hs]
  · iexact Hs
  iintro Hs
  iapply Hk
  rw [load_full]
  isplitl [H]; · iexact H
  iexact Hs

/-! ## Merging -/

theorem run_mergeLse (c : Dev nD) (r : Fin 4) {l l' : Vec F S32x128 .f32} {k : FVec F S32x128 .f32 → Body F} :
    iprop(hold c lM l ∗ hold c (lLand r) l')
      ⊢ iprop(((hold c lM (mrgL l l') ∗ hold c (lLand r) l') -∗ run c (k (wt l l')) Q) -∗ run c (mergeLse r k) Q) := by
  unfold mergeLse
  iintro ⟨H, Hl⟩ Hk
  iapply run_load $$ [H]
  · iexact H
  iintro H
  iapply (run_load_slot (fun _ => rfl) _ (lrow l') (lrow_slot l')) $$ [Hl]
  · iexact Hl
  iintro Hl
  iapply run_load $$ [H]
  · iexact H
  iintro H
  iapply run_store $$ [H]
  · iexact H
  rw [overlay_full, load_full]
  iintro H
  iapply Hk
  isplitl [H]; · iexact H
  iexact Hl

theorem run_mergeLo (c : Dev nD) (w : FVec F S32x128 .f32) {O : Vec F S32x32x128 .f32} {s : Vec F S16x32x128 .bf16} {k : Body F} :
    iprop(hold c oM O ∗ hold c oLandLo s)
      ⊢ iprop(((hold c oM (loR.overlay O (mrgLo w O s)) ∗ hold c oLandLo s) -∗ run c k Q) -∗ run c (mergeLo w k) Q) := by
  unfold mergeLo
  iintro ⟨H, Hl⟩ Hk
  iapply run_load $$ [H]
  · iexact H
  iintro H
  iapply (run_load_slot (fun _ => rfl) _ (hrow s) (hrow_slot s)) $$ [Hl]
  · iexact Hl
  iintro Hl
  iapply run_load $$ [H]
  · iexact H
  iintro H
  iapply run_store $$ [H]
  · iexact H
  iintro H
  iapply Hk
  isplitl [H]; · iexact H
  iexact Hl

theorem run_mergeHi (c : Dev nD) (w : FVec F S32x128 .f32) {O : Vec F S32x32x128 .f32} {s : Vec F S16x32x128 .bf16} {k : Body F} :
    iprop(hold c oM O ∗ hold c oLandHi s)
      ⊢ iprop(((hold c oM (hiR.overlay O (mrgHi w O s)) ∗ hold c oLandHi s) -∗ run c k Q) -∗ run c (mergeHi w k) Q) := by
  unfold mergeHi
  iintro ⟨H, Hl⟩ Hk
  iapply run_load $$ [H]
  · iexact H
  iintro H
  iapply (run_load_slot (fun _ => rfl) _ (hrow s) (hrow_slot s)) $$ [Hl]
  · iexact Hl
  iintro Hl
  iapply run_load $$ [H]
  · iexact H
  iintro H
  iapply run_store $$ [H]
  · iexact H
  iintro H
  iapply Hk
  isplitl [H]; · iexact H
  iexact Hl

theorem run_mergeAll (c : Dev nD) (r : Fin 4) (w : FVec F S32x128 .f32) {O : Vec F S32x32x128 .f32} {s : Vec F S32x32x128 .bf16} {k : Body F} :
    iprop(hold c oM O ∗ hold c (oLand r) s)
      ⊢ iprop(((hold c oM (mrgAll w O s) ∗ hold c (oLand r) s) -∗ run c k Q) -∗ run c (mergeAll r w k) Q) := by
  unfold mergeAll
  iintro ⟨H, Hl⟩ Hk
  iapply run_load $$ [H]
  · iexact H
  iintro H
  iapply (run_load_slot (fun _ => rfl) _ (arow s) (arow_slot s)) $$ [Hl]
  · iexact Hl
  iintro Hl
  iapply run_load $$ [H]
  · iexact H
  iintro H
  iapply run_store $$ [H]
  · iexact H
  rw [overlay_full, load_full]
  iintro H
  iapply Hk
  isplitl [H]; · iexact H
  iexact Hl

theorem run_emit (c : Dev nD) (uM : Memref sig .tc .vmem S32x32x128 .f32) {O X : Vec F S32x32x128 .f32} {k : Body F} :
    iprop(hold c oM O ∗ hold c uM X) ⊢ iprop(((hold c oM O ∗ hold c uM O) -∗ run c k Q) -∗ run c (emit uM k) Q) := by
  unfold emit
  iintro ⟨H, Hu⟩ Hk
  iapply run_load $$ [H]
  · iexact H
  iintro H
  iapply run_load $$ [Hu]
  · iexact Hu
  iintro Hu
  iapply run_store $$ [Hu]
  · iexact Hu
  rw [overlay_full, load_full]
  iintro Hu
  iapply Hk
  isplitl [H]; · iexact H
  iexact Hu

/-- Sixteen rows stored, then the other sixteen. -/
theorem glue_eq (w : FVec F S32x128 .f32) (O : Vec F S32x32x128 .f32) (s s' : Vec F S16x32x128 .bf16) :
    hiR.overlay (loR.overlay O (mrgLo w O s)) (mrgHi w (loR.overlay O (mrgLo w O s)) s') = glue (mrgLo w O s) (mrgHi w O s') := by
  have hoff : ∀ z : S16x32x128.Idx, loR.overlay O (mrgLo w O s) (hiR.emb z) = O (hiR.emb z) := fun z =>
    Rect.overlay_of_not_mem _ _ _ fun hm => by
      have h1 := Rect.mem_set_unit.mp hm 0
      have h2 : (hiR.emb z 0 : ℕ) = 16 + 1 * (z 0).val := Rect.emb_apply hiR z 0
      change 0 ≤ (hiR.emb z 0 : ℕ) ∧ (hiR.emb z 0 : ℕ) < 0 + 16 at h1
      omega
  rw [show mrgHi w (loR.overlay O (mrgLo w O s)) s' = mrgHi w O s' from by unfold mrgHi; exact congrArg (fun f => k0_pay236 w f (hrow s')) (funext hoff)]
  funext i
  unfold glue
  have hlt : (i 0).val < 32 := (i 0).isLt
  split
  · rename_i h
    rw [Rect.overlay_of_not_mem _ _ _ (fun hm => by
      have := Rect.mem_set_unit.mp hm 0
      change 16 ≤ (i 0).val ∧ (i 0).val < 16 + 16 at this
      omega)]
    exact overlay_at loR O _ _ (funext fun a => Fin.ext (by
      rw [Rect.emb_apply]
      match a with
      | ⟨0, _⟩ => show 0 + 1 * (i 0).val = (i 0).val; omega
      | ⟨1, _⟩ => show 0 + 1 * (i 1).val = (i 1).val; omega
      | ⟨2, _⟩ => show 0 + 1 * (i 2).val = (i 2).val; omega))
  · rename_i h
    exact overlay_at hiR _ _ _ (funext fun a => Fin.ext (by
      rw [Rect.emb_apply]
      match a with
      | ⟨0, _⟩ => show 16 + 1 * ((i 0).val - 16) = (i 0).val; omega
      | ⟨1, _⟩ => show 0 + 1 * (i 1).val = (i 1).val; omega
      | ⟨2, _⟩ => show 0 + 1 * (i 2).val = (i 2).val; omega))

end Cert.KernelIdeal.Flash

end

end
-- ==== Proof.Talk.lean ====
/- The steps devices take together: the barriers, the transfers to partners and the waits for them, a whole round; then
   the whole body. -/
module

public import proofs.«01_k».proof.Proof.Local

@[expose] public section

noncomputable section

namespace Cert.KernelIdeal.Flash

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] [Named F]

local notation "𝕄" => MT nD τ sig Unit (Elt F) ℕ UU ℕ

variable {c : Dev nD} {Q : Post F} (x : In F) (K : GSem nD τ sig → ℕ)

/-- The units of a transfer are its shape's. -/
theorem credit_eq {sp sp' : Space} {s : Shape} {e : EltTy} (m : Memref sig .tc sp s e) (m' : Memref sig .tc sp' s e) :
    m.view.dmaCredit = m'.view.dmaCredit :=
  (show m.view.dmaCredit = RefSig.tileCredit s e from rfl).trans (show m'.view.dmaCredit = RefSig.tileCredit s e from rfl).symm

theorem land_rLo (c : Dev nD) : pay x (par 0 c) .rLo 0 = hold (par 0 c) oLandLo (sLo (st x 0 c).o) :=
  (show pay x (par 0 c) .rLo 0 = hold (par 0 c) oLandLo (sLo (st x 0 (par 0 (par 0 c))).o) from rfl).trans (by rw [par_par])
theorem land_rHi (c : Dev nD) : pay x (par 0 c) .rHi 0 = hold (par 0 c) oLandHi (sHi (st x 0 c).o) :=
  (show pay x (par 0 c) .rHi 0 = hold (par 0 c) oLandHi (sHi (st x 0 (par 0 (par 0 c))).o) from rfl).trans (by rw [par_par])
theorem land_rAll (r : Fin 3) (c : Dev nD) :
    pay x (par (r.val + 1) c) (.rAll r) 0 = hold (par (r.val + 1) c) (oLand r.succ) (sAll (st x (r.val + 1) c).o) :=
  (show pay x (par (r.val + 1) c) (.rAll r) 0 = hold (par (r.val + 1) c) (oLand r.succ) (sAll (st x (r.val + 1) (par (r.val + 1) (par (r.val + 1) c))).o)
    from rfl).trans (by rw [par_par])
theorem land_rLse (r : Fin 4) (c : Dev nD) : pay x (par r.val c) (.rLse r) 0 = hold (par r.val c) (lLand r) (st x r.val c).l :=
  (show pay x (par r.val c) (.rLse r) 0 = hold (par r.val c) (lLand r) (st x r.val (par r.val (par r.val c))).l from rfl).trans (by rw [par_par])

/-! ## Barriers -/

/-- What a device needs to signal its partner of round `d`. -/
def signalling (kd : Cell) (c : Dev nD) (d : Fin 4) : sProp 𝕄 :=
  iprop(tk c (kd, d) ∗ pay x (par d.val c) kd d ∗ reached (ER (F := F)) (cell (par d.val c) kd) 0)

theorem run_barrier (kd : Cell) {s : Sem sig} (hs : kd.sem = .reg s) (ha : amt kd = 1) (hd : dts kd = Finset.univ) (hr : ∀ d, rnd kd d = d.val)
    (p0 p1 p2 p3 : Dev nD) (h0 : p0 = par 0 c) (h1 : p1 = par 1 c) (h2 : p2 = par 2 c) (h3 : p3 = par 3 c) (ts : List Tok)
    (h : ∀ t ∈ ts, lvl kd < lvl t.1) {k : Body F} :
    iprop(ctx x K c ∗ ow c ((kd, 0) :: (kd, 1) :: (kd, 2) :: (kd, 3) :: ts)
        ∗ (signalling x kd c 0 ∗ signalling x kd c 1 ∗ signalling x kd c 2 ∗ signalling x kd c 3) ∗ pos c 0 kd ∗ crd c kd)
      ⊢ iprop(((ow c ts ∗ pos c 1 kd ∗ bigSep Finset.univ (pay x c kd)) -∗ run c k Q) -∗ run c (barrier s p0 p1 p2 p3 k) Q) := by
  subst h0 h1 h2 h3
  unfold barrier signalling
  iintro ⟨#Hctx, HO, ⟨⟨Ht0, Hp0, #Hr0⟩, ⟨Ht1, Hp1, #Hr1⟩, ⟨Ht2, Hp2, #Hr2⟩, ⟨Ht3, Hp3, #Hr3⟩⟩, Hat, Hc⟩ Hk
  iapply (run_signal x K kd hs ha 0 (by rw [hd]; exact Finset.mem_univ _) _ (by rw [hr]; rfl) ((kd, 1) :: (kd, 2) :: (kd, 3) :: ts)) $$ [HO Ht0 Hp0]
  · isplitr; · iexact Hctx
    isplitl [HO]; · iexact HO
    isplitl [Ht0]; · iexact Ht0
    isplitl [Hp0]; · iexact Hp0
    iexact Hr0
  iintro HO
  iapply (run_signal x K kd hs ha 1 (by rw [hd]; exact Finset.mem_univ _) _ (by rw [hr]; rfl) ((kd, 2) :: (kd, 3) :: ts)) $$ [HO Ht1 Hp1]
  · isplitr; · iexact Hctx
    isplitl [HO]; · iexact HO
    isplitl [Ht1]; · iexact Ht1
    isplitl [Hp1]; · iexact Hp1
    iexact Hr1
  iintro HO
  iapply (run_signal x K kd hs ha 2 (by rw [hd]; exact Finset.mem_univ _) _ (by rw [hr]; rfl) ((kd, 3) :: ts)) $$ [HO Ht2 Hp2]
  · isplitr; · iexact Hctx
    isplitl [HO]; · iexact HO
    isplitl [Ht2]; · iexact Ht2
    isplitl [Hp2]; · iexact Hp2
    iexact Hr2
  iintro HO
  iapply (run_signal x K kd hs ha 3 (by rw [hd]; exact Finset.mem_univ _) _ (by rw [hr]; rfl) ts) $$ [HO Ht3 Hp3]
  · isplitr; · iexact Hctx
    isplitl [HO]; · iexact HO
    isplitl [Ht3]; · iexact Ht3
    isplitl [Hp3]; · iexact Hp3
    iexact Hr3
  iintro HO
  iapply (run_wait x K kd hs (fun K' => wpE_semWait_eq 𝒱₀ (c : Thread nD τ) none Set.univ K') (by rw [hd, ha]; decide) ts h) $$ [HO Hat Hc]
  · isplitr; · iexact Hctx
    isplitl [HO]; · iexact HO
    isplitl [Hat]; · iexact Hat
    iexact Hc
  rw [hd]
  iintro H
  iapply Hk
  iexact H

/-! ## Sending -/

/-- What a sending takes: its buffer, the landing slot, the two duties' tokens. -/
def sending (kS kR : Cell) (c p : Dev nD) {s : Shape} {e : EltTy} (m m' : Memref sig .tc .vmem s e) (X : s.Idx → Elt F e) : sProp 𝕄 :=
  iprop(hold c m X ∗ (∃ Y, hold p m' Y) ∗ tkS c kS ∗ tk c (kR, 0) ∗ allReached p)

section
variable (p : Dev nD) (ts : List Tok) {k : Body F}

theorem run_sendLo (hp : p = par 0 c) :
    iprop(ctx x K c ∗ ow c ((.rLo, 0) :: ts) ∗ sending .sLo .rLo c p oSendLo oLandLo (sLo (st x 0 c).o))
      ⊢ iprop(((crd c .sLo ∗ ow c ts) -∗ run c k Q) -∗ run c (sendLo p k) Q) := by
  unfold sendLo sending
  have hr := reached_of (F := F) p .rLo
  iintro ⟨#Hctx, HO, Hs, Hd, HtS, HtR, #Hr⟩ Hk
  iapply (run_send x K .sLo .rLo rfl rfl p hp rfl rfl rfl rfl rfl (by subst hp; exact land_rLo x c) ts) $$ [HO Hs Hd HtS HtR]
  · isplitr; · iexact Hctx
    isplitl [HO]; · iexact HO
    isplitl [Hs]; · iexact Hs
    isplitl [Hd]; · iexact Hd
    isplitl [HtS]; · iexact HtS
    isplitl [HtR]; · iexact HtR
    iapply hr; iexact Hr
  iintro H
  iapply Hk
  iexact H

theorem run_sendHi (hp : p = par 0 c) :
    iprop(ctx x K c ∗ ow c ((.rHi, 0) :: ts) ∗ sending .sHi .rHi c p oSendHi oLandHi (sHi (st x 0 c).o))
      ⊢ iprop(((crd c .sHi ∗ ow c ts) -∗ run c k Q) -∗ run c (sendHi p k) Q) := by
  unfold sendHi sending
  have hr := reached_of (F := F) p .rHi
  iintro ⟨#Hctx, HO, Hs, Hd, HtS, HtR, #Hr⟩ Hk
  iapply (run_send x K .sHi .rHi rfl rfl p hp rfl rfl rfl rfl rfl (by subst hp; exact land_rHi x c) ts) $$ [HO Hs Hd HtS HtR]
  · isplitr; · iexact Hctx
    isplitl [HO]; · iexact HO
    isplitl [Hs]; · iexact Hs
    isplitl [Hd]; · iexact Hd
    isplitl [HtS]; · iexact HtS
    isplitl [HtR]; · iexact HtR
    iapply hr; iexact Hr
  iintro H
  iapply Hk
  iexact H

theorem run_sendAll (r : Fin 3) (hp : p = par (r.val + 1) c) :
    iprop(ctx x K c ∗ ow c ((.rAll r, 0) :: ts) ∗ sending (.sAll r) (.rAll r) c p oSend (oLand r.succ) (sAll (st x (r.val + 1) c).o))
      ⊢ iprop(((crd c (.sAll r) ∗ ow c ts) -∗ run c k Q) -∗ run c (sendAll r.succ p k) Q) := by
  unfold sendAll sending
  have hr := reached_of (F := F) p (.rAll r)
  iintro ⟨#Hctx, HO, Hs, Hd, HtS, HtR, #Hr⟩ Hk
  iapply (run_send x K (.sAll r) (.rAll r) rfl rfl p hp rfl rfl rfl rfl rfl (by subst hp; exact land_rAll x r c) ts) $$ [HO Hs Hd HtS HtR]
  · isplitr; · iexact Hctx
    isplitl [HO]; · iexact HO
    isplitl [Hs]; · iexact Hs
    isplitl [Hd]; · iexact Hd
    isplitl [HtS]; · iexact HtS
    isplitl [HtR]; · iexact HtR
    iapply hr; iexact Hr
  iintro H
  iapply Hk
  iexact H

theorem run_sendLse (r : Fin 4) (hp : p = par r.val c) :
    iprop(ctx x K c ∗ ow c ((.rLse r, 0) :: ts) ∗ sending (.sLse r) (.rLse r) c p lM (lLand r) (st x r.val c).l)
      ⊢ iprop(((crd c (.sLse r) ∗ ow c ts) -∗ run c k Q) -∗ run c (sendLse r p k) Q) := by
  unfold sendLse sending
  have hr := reached_of (F := F) p (.rLse r)
  iintro ⟨#Hctx, HO, Hs, Hd, HtS, HtR, #Hr⟩ Hk
  iapply (run_send x K (.sLse r) (.rLse r) rfl rfl p hp rfl rfl rfl rfl rfl (by subst hp; exact land_rLse x r c) ts) $$ [HO Hs Hd HtS HtR]
  · isplitr; · iexact Hctx
    isplitl [HO]; · iexact HO
    isplitl [Hs]; · iexact Hs
    isplitl [Hd]; · iexact Hd
    isplitl [HtS]; · iexact HtS
    isplitl [HtR]; · iexact HtR
    iapply hr; iexact Hr
  iintro H
  iapply Hk
  iexact H

end

/-! ## Waiting -/

/-- A wait for a cell's only duty. -/
theorem run_wait_one {sm : DmaSem sig} {sp sp' : Space} {s s' : Shape} {e e' : EltTy} {m : Memref sig .tc sp s e} {m' : Memref sig .tc sp' s' e'}
    {h1 : m.view.WordExact} {h2 : m'.view.WordExact} (kd : Cell) (hs : kd.sem = .dma sm) (hd : dts kd = {0}) (ha : m'.view.dmaCredit = amt kd)
    (ts : List Tok) (h : ∀ t ∈ ts, lvl kd < lvl t.1) {k : PUnit → Body F} :
    iprop(ctx x K c ∗ ow c ts ∗ pos c 0 kd ∗ crd c kd)
      ⊢ iprop(((ow c ts ∗ pos c 1 kd ∗ pay x c kd 0) -∗ run c (k ⟨⟩) Q) -∗ run c (.op (.waitDma2 sm m m' h1 h2) k) Q) := by
  have hw := run_wait (Q := Q) (k := k) x K kd hs (fun K' => wpE_waitDma2_eq 𝒱₀ (c : Thread nD τ) none Set.univ (src := m) (dst := m') (hsrc := h1) (hdst := h2) K')
    (by rw [hd, ha]; exact (Nat.one_mul _).symm) ts h
  rw [hd, bigSep_singleton] at hw
  exact hw

/-- What the two waits of a transfer take. -/
def awaiting (kS kR : Cell) (c : Dev nD) : sProp 𝕄 := iprop((pos c 0 kS ∗ crd c kS) ∗ (pos c 0 kR ∗ crd c kR))
/-- And what they leave. -/
def awaited (kS kR : Cell) (c : Dev nD) : sProp 𝕄 := iprop((pos c 1 kS ∗ pay x c kS 0) ∗ (pos c 1 kR ∗ pay x c kR 0))

theorem run_wait_two {sS sR : DmaSem sig} {sp1 sp2 sp3 sp4 : Space} {s1 s2 s3 s4 : Shape} {e1 e2 e3 e4 : EltTy} {m1 : Memref sig .tc sp1 s1 e1}
    {m2 : Memref sig .tc sp2 s2 e2} {m3 : Memref sig .tc sp3 s3 e3} {m4 : Memref sig .tc sp4 s4 e4}
    {h1 : m1.view.WordExact} {h2 : m2.view.WordExact} {h3 : m3.view.WordExact} {h4 : m4.view.WordExact} (kS kR : Cell)
    (hS : kS.sem = .dma sS) (hR : kR.sem = .dma sR) (hdS : dts kS = {0}) (hdR : dts kR = {0}) (haS : m2.view.dmaCredit = amt kS) (haR : m4.view.dmaCredit = amt kR)
    (ts : List Tok) (hls : lvl kS = 0) (hlr : 0 < lvl kR) (h : ∀ t ∈ ts, lvl kR < lvl t.1) {k : Body F} :
    iprop(ctx x K c ∗ ow c ts ∗ awaiting kS kR c)
      ⊢ iprop(((ow c ts ∗ awaited x kS kR c) -∗ run c k Q)
        -∗ run c (.op (.waitDma2 sS m1 m2 h1 h2) fun _ => .op (.waitDma2 sR m3 m4 h3 h4) fun _ => k) Q) := by
  unfold awaiting awaited
  iintro ⟨#Hctx, HO, ⟨HaS, HcS⟩, HaR, HcR⟩ Hk
  iapply (run_wait_one x K kS hS hdS haS ts (fun t ht => by have := h t ht; omega)) $$ [HO HaS HcS]
  · isplitr; · iexact Hctx
    isplitl [HO]; · iexact HO
    isplitl [HaS]; · iexact HaS
    iexact HcS
  iintro ⟨HO, HaS, HpS⟩
  iapply (run_wait_one x K kR hR hdR haR ts h) $$ [HO HaR HcR]
  · isplitr; · iexact Hctx
    isplitl [HO]; · iexact HO
    isplitl [HaR]; · iexact HaR
    iexact HcR
  iintro ⟨HO, HaR, HpR⟩
  iapply Hk
  isplitl [HO]; · iexact HO
  isplitl [HaS HpS]
  · isplitl [HaS]; · iexact HaS
    iexact HpS
  · isplitl [HaR]; · iexact HaR
    iexact HpR

theorem awaited_lo (c : Dev nD) : awaited x .sLo .rLo c
    = iprop((pos c 1 .sLo ∗ hold c oSendLo (sLo (st x 0 c).o)) ∗ (pos c 1 .rLo ∗ hold c oLandLo (sLo (st x 0 (par 0 c)).o))) := rfl
theorem awaited_hi (c : Dev nD) : awaited x .sHi .rHi c
    = iprop((pos c 1 .sHi ∗ hold c oSendHi (sHi (st x 0 c).o)) ∗ (pos c 1 .rHi ∗ hold c oLandHi (sHi (st x 0 (par 0 c)).o))) := rfl
theorem awaited_all (r : Fin 3) (c : Dev nD) : awaited x (.sAll r) (.rAll r) c
    = iprop((pos c 1 (.sAll r) ∗ hold c oSend (sAll (st x (r.val + 1) c).o))
      ∗ (pos c 1 (.rAll r) ∗ hold c (oLand r.succ) (sAll (st x (r.val + 1) (par (r.val + 1) c)).o))) := rfl
theorem awaited_lse (r : Fin 4) (c : Dev nD) : awaited x (.sLse r) (.rLse r) c
    = iprop((pos c 1 (.sLse r) ∗ hold c lM (st x r.val c).l) ∗ (pos c 1 (.rLse r) ∗ hold c (lLand r) (st x r.val (par r.val c)).l)) := rfl
theorem slots_succ (c : Dev nD) (r : Fin 3) : slots (F := F) c r.succ = iprop((∃ X, hold c (oLand r.succ) X) ∗ ∃ X, hold c (lLand r.succ) X) := rfl
theorem slots_zero (c : Dev nD) : slots (F := F) c 0
    = iprop(((∃ X, hold c oLandLo X) ∗ ∃ X, hold c oLandHi X) ∗ ∃ X, hold c (lLand 0) X) := rfl
theorem pay_b0 (c : Dev nD) (d : Fin 4) : pay x c .b0 d = iprop(slots (par d.val c) d ∗ allReached (par d.val c)) := rfl

section
variable (ts : List Tok) {k : Body F}

theorem run_waitLo (h : ∀ t ∈ ts, 2 < lvl t.1) :
    iprop(ctx x K c ∗ ow c ts ∗ awaiting .sLo .rLo c) ⊢ iprop(((ow c ts ∗ awaited x .sLo .rLo c) -∗ run c k Q) -∗ run c (waitLo k) Q) :=
  run_wait_two x K .sLo .rLo rfl rfl rfl rfl (credit_eq _ _) (credit_eq _ _) ts rfl (by decide) h
theorem run_waitHi (h : ∀ t ∈ ts, 2 < lvl t.1) :
    iprop(ctx x K c ∗ ow c ts ∗ awaiting .sHi .rHi c) ⊢ iprop(((ow c ts ∗ awaited x .sHi .rHi c) -∗ run c k Q) -∗ run c (waitHi k) Q) :=
  run_wait_two x K .sHi .rHi rfl rfl rfl rfl (credit_eq _ _) (credit_eq _ _) ts rfl (by decide) h
theorem run_waitAll (r : Fin 3) (h : ∀ t ∈ ts, 3 + r.val < lvl t.1) :
    iprop(ctx x K c ∗ ow c ts ∗ awaiting (.sAll r) (.rAll r) c)
      ⊢ iprop(((ow c ts ∗ awaited x (.sAll r) (.rAll r) c) -∗ run c k Q) -∗ run c (waitAll r.succ k) Q) :=
  run_wait_two x K (.sAll r) (.rAll r) rfl rfl rfl rfl (credit_eq _ _) (credit_eq _ _) ts rfl (by simp [lvl]) h
theorem run_waitLse (r : Fin 4) (h : ∀ t ∈ ts, 2 + r.val < lvl t.1) :
    iprop(ctx x K c ∗ ow c ts ∗ awaiting (.sLse r) (.rLse r) c)
      ⊢ iprop(((ow c ts ∗ awaited x (.sLse r) (.rLse r) c) -∗ run c k Q) -∗ run c (waitLse r k) Q) :=
  run_wait_two x K (.sLse r) (.rLse r) rfl rfl rfl rfl (credit_eq _ _) (credit_eq _ _) ts rfl (by simp [lvl]) h
end

/-! ## A round after the first -/

/-- The cells of a round's transfers, before; -/
def roundIn (r : Fin 3) (c : Dev nD) : sProp 𝕄 :=
  iprop((tkS c (.sAll r) ∗ tk c (.rAll r, 0) ∗ pos c 0 (.sAll r) ∗ pos c 0 (.rAll r) ∗ crd c (.rAll r))
    ∗ (tkS c (.sLse r.succ) ∗ tk c (.rLse r.succ, 0) ∗ pos c 0 (.sLse r.succ) ∗ pos c 0 (.rLse r.succ) ∗ crd c (.rLse r.succ)))
/-- and after, with the slots landed in. -/
def roundOut (r : Fin 3) (c : Dev nD) : sProp 𝕄 :=
  iprop((pos c 1 (.sAll r) ∗ pos c 1 (.rAll r) ∗ pos c 1 (.sLse r.succ) ∗ pos c 1 (.rLse r.succ)) ∗ slots c r.succ)

/-- The outputs, the log-sum-exps and the buffer they are sent from. -/
def state (n : ℕ) (c : Dev nD) : sProp 𝕄 := iprop(hold c oM (st x n c).o ∗ hold c lM (st x n c).l ∗ ∃ X, hold c oSend X)

theorem run_round (r : Fin 3) (p q : Dev nD) (hp : p = par (r.val + 1) c) (hq : q = par (r.val + 1) c) (ts : List Tok) (h : ∀ t ∈ ts, 3 + r.val < lvl t.1)
    {k : Body F} :
    iprop(ctx x K c ∗ ow c ((.rAll r, 0) :: (.rLse r.succ, 0) :: ts) ∗ state x (r.val + 1) c ∗ pay x c .b0 r.succ ∗ roundIn r c)
      ⊢ iprop(((ow c ts ∗ state x (r.val + 2) c ∗ roundOut r c) -∗ run c k Q) -∗ run c (round r.succ p q k) Q) := by
  have hpq : p = q := hp.trans hq.symm
  subst hpq
  have hpay : pay x c .b0 r.succ ⊢ iprop((∃ X, hold p (oLand r.succ) X) ∗ (∃ X, hold p (lLand r.succ) X) ∗ allReached p) := by
    subst hp
    rw [pay_b0, slots_succ]
    iintro ⟨⟨Ho, Hl⟩, Hr⟩
    isplitl [Ho]; · iexact Ho
    isplitl [Hl]; · iexact Hl
    iexact Hr
  unfold round state roundIn roundOut
  rw [slots_succ]
  iintro ⟨#Hctx, HO, ⟨Ho, Hl, Hs⟩, Hp, ⟨⟨HtS, HtR, HaS, HaR, HcR⟩, HtS', HtR', HaS', HaR', HcR'⟩⟩ Hk
  ihave H := hpay $$ Hp
  icases H with ⟨Hd, Hd', #Hr⟩
  iapply (run_stageAll c) $$ [Ho Hs]
  · isplitl [Ho]; · iexact Ho
    iexact Hs
  iintro ⟨Ho, Hs⟩
  iapply (run_sendAll x K p ((.rLse r.succ, 0) :: ts) r hp) $$ [HO Hs Hd HtS HtR]
  · isplitr; · iexact Hctx
    isplitl [HO]; · iexact HO
    unfold sending
    isplitl [Hs]; · iexact Hs
    isplitl [Hd]; · iexact Hd
    isplitl [HtS]; · iexact HtS
    isplitl [HtR]; · iexact HtR
    iexact Hr
  iintro ⟨HcS, HO⟩
  iapply (run_sendLse x K p ts r.succ hp) $$ [HO Hl Hd' HtS' HtR']
  · isplitr; · iexact Hctx
    isplitl [HO]; · iexact HO
    unfold sending
    isplitl [Hl]; · iexact Hl
    isplitl [Hd']; · iexact Hd'
    isplitl [HtS']; · iexact HtS'
    isplitl [HtR']; · iexact HtR'
    iexact Hr
  iintro ⟨HcS', HO⟩
  iapply (run_waitLse x K ts r.succ (fun t ht => by have := h t ht; simp only [Fin.val_succ]; omega)) $$ [HO HaS' HaR' HcS' HcR']
  · isplitr; · iexact Hctx
    isplitl [HO]; · iexact HO
    unfold awaiting
    isplitl [HaS' HcS']
    · isplitl [HaS']; · iexact HaS'
      iexact HcS'
    · isplitl [HaR']; · iexact HaR'
      iexact HcR'
  rw [awaited_lse]
  iintro ⟨HO, ⟨HaS', Hl⟩, HaR', Hl'⟩
  iapply (run_mergeLse c r.succ (l := (st x (r.val + 1) c).l) (l' := (st x (r.val + 1) (par (r.val + 1) c)).l)) $$ [Hl Hl']
  · isplitl [Hl]; · iexact Hl
    iexact Hl'
  iintro ⟨Hl, Hl'⟩
  iapply (run_waitAll x K ts r h) $$ [HO HaS HaR HcS HcR]
  · isplitr; · iexact Hctx
    isplitl [HO]; · iexact HO
    unfold awaiting
    isplitl [HaS HcS]
    · isplitl [HaS]; · iexact HaS
      iexact HcS
    · isplitl [HaR]; · iexact HaR
      iexact HcR
  rw [awaited_all]
  iintro ⟨HO, ⟨HaS, Hs⟩, HaR, Hs'⟩
  iapply (run_mergeAll c r.succ _ (O := (st x (r.val + 1) c).o) (s := sAll (st x (r.val + 1) (par (r.val + 1) c)).o)) $$ [Ho Hs']
  · isplitl [Ho]; · iexact Ho
    iexact Hs'
  iintro ⟨Ho, Hs'⟩
  iapply Hk
  isplitl [HO]; · iexact HO
  isplitl [Ho Hl Hs]
  · isplitl [Ho]; · iexact Ho
    isplitl [Hl]; · iexact Hl
    iexists _; iexact Hs
  isplitl [HaS HaR HaS' HaR']
  · isplitl [HaS]; · iexact HaS
    isplitl [HaR]; · iexact HaR
    isplitl [HaS']; · iexact HaS'
    iexact HaR'
  isplitl [Hs']
  · iexists _; iexact Hs'
  · iexists _; iexact Hl'

end Cert.KernelIdeal.Flash

end

end
-- ==== Proof.Buffers.lean ====
/- Cutting the buffers into the parts the steps use, and putting them together again. -/
module

public import proofs.«01_k».proof.Proof.Talk

@[expose] public section

noncomputable section

namespace Cert.KernelIdeal.Flash

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-- Every element type has a value. -/
instance eltNonempty (e : EltTy) : Nonempty (Elt F e) := by
  cases e
  all_goals first
    | exact ⟨(0 : BitVec _)⟩
    | exact ⟨FloatOps.ofBits _ 0⟩

variable {c : Dev nD}

/-! ## Parts that tile -/

theorem emb_mem {s : Shape} (r : Rect s) (z : r.shape.Idx) : r.emb z ∈ r.set :=
  r.mem_set.mpr fun a => ⟨z a, (z a).isLt, Rect.emb_apply r z a⟩

theorem some_hold {sp : Space} {sh : Shape} {e : EltTy} (m : Memref sig .tc sp sh e) (X : sh.Idx → Elt F e) :
    hold c m X ⊢ iprop(∃ X, hold c m X) := by
  iintro H; iexists X; iexact H

section
variable {sp : Space} {sh : Shape} {e : EltTy} (m : Memref sig .tc sp sh e)
variable {T : Type} [Fintype T] [DecidableEq T] (r : T → Rect sh) (hr : ∀ t a, (r t).stride a = 1)
  (hd : ∀ t t', t ≠ t' → Disjoint (r t).set (r t').set) (hcov : ∀ i, ∃ t, i ∈ (r t).set)

include hd hcov in
theorem hold_join : (bigSep Finset.univ fun t => iprop(∃ X, hold (F := F) c (m.slice (r t) (hr t)) X)) ⊢ iprop(∃ X, hold c m X) := by
  have hpi := bigSep_exists_pi Finset.univ fun t X => hold (F := F) c (m.slice (r t) (hr t)) X
  iintro H
  ihave H := hpi $$ H
  icases H with ⟨%Y, H⟩
  have hY : ∃ X : sh.Idx → Elt F e, ∀ t z, X ((r t).emb z) = Y t z := by
    classical
    refine ⟨fun i => if h : ∃ p : (t : T) × (r t).shape.Idx, (r p.1).emb p.2 = i then Y h.choose.1 h.choose.2 else Classical.arbitrary _, fun t z => ?_⟩
    have h : ∃ p : (t : T) × (r t).shape.Idx, (r p.1).emb p.2 = (r t).emb z := ⟨⟨t, z⟩, rfl⟩
    show (if h : ∃ p : (t : T) × (r t).shape.Idx, (r p.1).emb p.2 = (r t).emb z then Y h.choose.1 h.choose.2 else _) = _
    rw [dif_pos h]
    generalize h.choose = p, h.choose_spec = hp
    obtain ⟨t', z'⟩ := p
    by_cases ht : t' = t
    · subst ht
      rw [(r t').emb.injective hp]
    · exact absurd hp fun e => Finset.disjoint_left.mp (hd _ _ ht) (emb_mem (r t') z')
        (by rw [show (r t').emb z' = (r t).emb z from e]; exact emb_mem (r t) z)
  obtain ⟨X, hX⟩ := hY
  iexists X
  have hj : (bigSep Finset.univ fun t => owns (c : Thread nD τ) (m.slice (r t) (hr t)) fullShare fun j => X ((r t).emb j)) ⊢ hold c m X :=
    owns_of_rects (c : Thread nD τ) m fullShare r hr hd (by
      ext i; simp only [Finset.mem_biUnion, Finset.mem_univ, _root_.true_and, iff_true]; exact hcov i) X
  iapply hj
  rw [bigSep_congr fun t _ => congrArg (hold (F := F) c (m.slice (r t) (hr t))) (funext fun z => hX t z)]
  iexact H

include hd hcov in
theorem hold_cut : iprop(∃ X, hold (F := F) c m X) ⊢ bigSep Finset.univ fun t => iprop(∃ X, hold (F := F) c (m.slice (r t) (hr t)) X) := by
  iintro ⟨%X, H⟩
  have hj : hold c m X ⊢ (bigSep Finset.univ fun t => owns (c : Thread nD τ) (m.slice (r t) (hr t)) fullShare fun j => X ((r t).emb j)) :=
    owns_rects (c : Thread nD τ) m fullShare r hr hd (by
      ext i; simp only [Finset.mem_biUnion, Finset.mem_univ, _root_.true_and, iff_true]; exact hcov i) X
  ihave H := hj $$ H
  have hm : (bigSep Finset.univ fun t => owns (c : Thread nD τ) (m.slice (r t) (hr t)) fullShare fun j => X ((r t).emb j))
      ⊢ bigSep Finset.univ fun t => iprop(∃ X, hold (F := F) c (m.slice (r t) (hr t)) X) :=
    bigSep_mono fun t _ => some_hold _ _
  iapply hm
  iexact H

variable (q : Rect sh) (hq : ∀ a, q.stride a = 1) {s' : Shape} (hs : q.shape.Squeezes s')

/-- A part, and the part without its axes of one. -/
theorem hold_squeeze : iprop(∃ X, hold (F := F) c (m.slice q hq) X) ⊢ iprop(∃ X, hold c ((m.slice q hq).squeeze s' hs) X) := by
  unfold hold owns
  iintro ⟨%X, %f, -, H⟩
  iexists _
  iexists f
  rw [Memref.set_view_squeeze]
  isplitr; · ipureintro; rfl
  iexact H
theorem hold_unsqueeze : iprop(∃ X, hold c ((m.slice q hq).squeeze s' hs) X) ⊢ iprop(∃ X, hold (F := F) c (m.slice q hq) X) := by
  unfold hold owns
  iintro ⟨%X, %f, -, H⟩
  iexists _
  iexists f
  rw [Memref.set_view_squeeze]
  isplitr; · ipureintro; rfl
  iexact H

end

/-- Two rectangles apart on an axis. -/
theorem apart {s : Shape} {r r' : Rect s} (a : Fin s.rank) (hr : r.stride a = 1) (hr' : r'.stride a = 1)
    (h : r.off a + r.size a ≤ r'.off a ∨ r'.off a + r'.size a ≤ r.off a) : Disjoint r.set r'.set := by
  rw [Finset.disjoint_left]
  intro i hi hi'
  obtain ⟨j, hj, e⟩ := r.mem_set.mp hi a
  obtain ⟨j', hj', e'⟩ := r'.mem_set.mp hi' a
  rw [hr, Nat.one_mul] at e
  rw [hr', Nat.one_mul] at e'
  omega
theorem inside {s : Shape} {r : Rect s} {i : s.Idx} (hr : ∀ a, r.stride a = 1) (h : ∀ a, r.off a ≤ i a ∧ (i a : ℕ) < r.off a + r.size a) : i ∈ r.set :=
  r.mem_set.mpr fun a => ⟨i a - r.off a, by have := h a; omega, by rw [hr, Nat.one_mul]; have := h a; omega⟩

/-! ## The rows of the staged keys and values -/

theorem rows_apart (j j' : Fin 32) (h : j ≠ j') : Disjoint (kvR j).set (kvR j').set :=
  apart 0 rfl rfl (by
    have : j.val ≠ j'.val := fun e => h (Fin.ext e)
    show j.val + 1 ≤ j'.val ∨ j'.val + 1 ≤ j.val
    omega)
theorem rows_cover (i : S32x512x128.Idx) : ∃ j, i ∈ (kvR j).set :=
  ⟨i 0, inside (fun _ => rfl) fun a => by
    match a with
    | ⟨0, _⟩ => show (i 0).val ≤ (i 0).val ∧ (i 0).val < (i 0).val + 1; omega
    | ⟨1, _⟩ => have : (i 1).val < 512 := (i 1).isLt; show 0 ≤ (i 1).val ∧ (i 1).val < 0 + 512; omega
    | ⟨2, _⟩ => have : (i 2).val < 128 := (i 2).isLt; show 0 ≤ (i 2).val ∧ (i 2).val < 0 + 128; omega⟩

theorem rows_cut (m : Memref sig .tc .vmem S32x512x128 .f32) :
    iprop(∃ X, hold (F := F) c m X) ⊢ bigSep Finset.univ fun j => iprop(∃ X, hold (F := F) c (kvRow m j) X) :=
  (hold_cut m kvR (fun _ _ => rfl) rows_apart rows_cover).trans (bigSep_mono fun j _ => hold_squeeze m (kvR j) _ squeezes_S1x512x128_S512x128)
theorem rows_join (m : Memref sig .tc .vmem S32x512x128 .f32) :
    (bigSep Finset.univ fun j => iprop(∃ X, hold (F := F) c (kvRow m j) X)) ⊢ iprop(∃ X, hold (F := F) c m X) :=
  (bigSep_mono fun j _ => hold_unsqueeze m (kvR j) _ squeezes_S1x512x128_S512x128).trans (hold_join m kvR (fun _ _ => rfl) rows_apart rows_cover)

/-! ## The blocks of the keys and of the values -/

theorem blks_apart (d : Dev nD) (j j' : Fin 32) (h : j ≠ j') : Disjoint (blkR j d).set (blkR j' d).set := by
  have hne : j.val ≠ j'.val := fun e => h (Fin.ext e)
  by_cases hb : j.val / 8 = j'.val / 8
  · exact apart 2 rfl rfl (by show j.val % 8 + 1 ≤ j'.val % 8 ∨ j'.val % 8 + 1 ≤ j.val % 8; omega)
  · exact apart 0 rfl rfl (by show j.val / 8 + 1 ≤ j'.val / 8 ∨ j'.val / 8 + 1 ≤ j.val / 8; omega)

/-- The elements of the keys, or of the values, that no row copies. -/
def others (c : Dev nD) (m : Memref sig .tc .hbm S4x4096x8x128 .f32) (f : m.view.ty.Contents (Elt F)) : sProp 𝕄 :=
  m.view.loc (c : Thread nD τ) ↦[m.view.set \ Finset.univ.biUnion fun j => (blk m j c).view.set]{fullShare} f

theorem blks_eq (m : Memref sig .tc .hbm S4x4096x8x128 .f32) (f : m.view.ty.Contents (Elt F)) :
    src c m f = iprop((bigSep Finset.univ fun j => src c (blk m j c) f) ∗ others c m f) := by
  have hset (j : Fin 32) : (blk m j c).view.set = (m.view.slice (blkR j c)).set := Memref.set_view_squeeze _ _
  have hsub : (Finset.univ.biUnion fun j => (blk m j c).view.set) ⊆ m.view.set :=
    Finset.biUnion_subset.mpr fun j _ => by rw [hset]; exact View.set_slice_subset _ _
  have h := equiv_iff.mp ⟨(pointsTo_split_subset (ℓ := m.view.loc (c : Thread nD τ)) (q := fullShare) (f := f) (Ix := Unit) (Name := ℕ) (U := UU) (Lvl := ℕ) hsub).1,
    (pointsTo_split_subset (ℓ := m.view.loc (c : Thread nD τ)) (q := fullShare) (f := f) (Ix := Unit) (Name := ℕ) (U := UU) (Lvl := ℕ) hsub).2⟩
  unfold src others
  rw [h, pointsTo_biUnion _ _ fun j _ j' _ hj => by
    rw [hset, hset, View.set_slice, View.set_slice]; exact (Finset.disjoint_map _).mpr (blks_apart c j j' hj)]

/-! ## The buffer sent from -/

def halfR : Fin 2 → Rect S32x32x128 := ![loR, hiR]
theorem halves_apart (t t' : Fin 2) (h : t ≠ t') : Disjoint (halfR t).set (halfR t').set := by
  match t, t', h with
  | 0, 0, h | 1, 1, h => exact absurd rfl h
  | 0, 1, _ => exact apart 0 rfl rfl (Or.inl (by decide))
  | 1, 0, _ => exact apart 0 rfl rfl (Or.inr (by decide))
theorem halves_cover (i : S32x32x128.Idx) : ∃ t, i ∈ (halfR t).set := by
  have h0 : (i 0).val < 32 := (i 0).isLt
  have h1 : (i 1).val < 32 := (i 1).isLt
  have h2 : (i 2).val < 128 := (i 2).isLt
  by_cases h : (i 0).val < 16
  · exact ⟨0, inside (fun _ => rfl) fun a => by
      match a with
      | ⟨0, _⟩ => show 0 ≤ (i 0).val ∧ (i 0).val < 0 + 16; omega
      | ⟨1, _⟩ => show 0 ≤ (i 1).val ∧ (i 1).val < 0 + 32; omega
      | ⟨2, _⟩ => show 0 ≤ (i 2).val ∧ (i 2).val < 0 + 128; omega⟩
  · exact ⟨1, inside (fun _ => rfl) fun a => by
      match a with
      | ⟨0, _⟩ => show 16 ≤ (i 0).val ∧ (i 0).val < 16 + 16; omega
      | ⟨1, _⟩ => show 0 ≤ (i 1).val ∧ (i 1).val < 0 + 32; omega
      | ⟨2, _⟩ => show 0 ≤ (i 2).val ∧ (i 2).val < 0 + 128; omega⟩
theorem half_stride (t : Fin 2) (a) : (halfR t).stride a = 1 := by match t with | 0 | 1 => rfl

theorem halves_eq (c : Dev nD) : (bigSep Finset.univ fun t => iprop(∃ X, hold (F := F) c (sM.slice (halfR t) (half_stride t)) X))
    = iprop((∃ X, hold (F := F) c oSendLo X) ∗ ∃ X, hold c oSendHi X) := by
  rw [bigSep_univ_eq_bigSepL [0, 1] (by decide) (by decide)]; rfl
theorem halves_cut (c : Dev nD) : iprop(∃ X, hold (F := F) c sM X) ⊢ iprop((∃ X, hold (F := F) c oSendLo X) ∗ ∃ X, hold c oSendHi X) :=
  (hold_cut sM halfR half_stride halves_apart halves_cover).trans (Entails.of_eq (halves_eq c))
theorem halves_join (c : Dev nD) : iprop((∃ X, hold (F := F) c oSendLo X) ∗ ∃ X, hold c oSendHi X) ⊢ iprop(∃ X, hold (F := F) c sM X) :=
  (Entails.of_eq (halves_eq c).symm).trans (hold_join sM halfR half_stride halves_apart halves_cover)

theorem out_cover (i : S32x32x128.Idx) : ∃ _ : Fin 1, i ∈ (outR).set :=
  ⟨0, inside (fun _ => rfl) fun a => by
    match a with
    | ⟨0, _⟩ => have : (i 0).val < 32 := (i 0).isLt; show 0 ≤ (i 0).val ∧ (i 0).val < 0 + 32; omega
    | ⟨1, _⟩ => have : (i 1).val < 32 := (i 1).isLt; show 0 ≤ (i 1).val ∧ (i 1).val < 0 + 32; omega
    | ⟨2, _⟩ => have : (i 2).val < 128 := (i 2).isLt; show 0 ≤ (i 2).val ∧ (i 2).val < 0 + 128; omega⟩
theorem send_eq (c : Dev nD) : (bigSep Finset.univ fun _ : Fin 1 => iprop(∃ X, hold (F := F) c oSend X)) = iprop(∃ X, hold (F := F) c oSend X) := by
  rw [bigSep_univ_eq_bigSepL [0] (by decide) (by decide)]; rfl
theorem send_cut (c : Dev nD) : iprop(∃ X, hold (F := F) c sM X) ⊢ iprop(∃ X, hold (F := F) c oSend X) :=
  (hold_cut sM (fun _ : Fin 1 => outR) (fun _ _ => rfl) (fun t t' h => absurd (Subsingleton.elim t t') h) out_cover).trans (Entails.of_eq (send_eq c))
theorem send_join (c : Dev nD) : iprop(∃ X, hold (F := F) c oSend X) ⊢ iprop(∃ X, hold (F := F) c sM X) :=
  (Entails.of_eq (send_eq c).symm).trans (hold_join sM (fun _ : Fin 1 => outR) (fun _ _ => rfl) (fun t t' h => absurd (Subsingleton.elim t t') h) out_cover)

/-! ## The landing slots -/

/-- The parts of the outputs' landing buffer: the two halves of round 0's slot, then the other three. -/
def landR : Fin 5 → Rect S4x32x32x128 := ![oLoR, oHiR, oSlotR 1, oSlotR 2, oSlotR 3]
theorem land_stride (t : Fin 5) (a) : (landR t).stride a = 1 := by match t with | 0 | 1 | 2 | 3 | 4 => rfl
theorem land_apart (t t' : Fin 5) (h : t ≠ t') : Disjoint (landR t).set (landR t').set := by
  have key : ∀ t t' : Fin 5, t.val < t'.val → Disjoint (landR t).set (landR t').set := by
    intro t t'
    fin_cases t <;> fin_cases t' <;> intro h <;> first
      | exact absurd h (by decide)
      | exact apart 0 rfl rfl (Or.inl (by decide))
      | exact apart 1 rfl rfl (Or.inl (by decide))
  rcases Nat.lt_or_gt_of_ne (fun e => h (Fin.ext e)) with h | h
  · exact key _ _ h
  · exact (key _ _ h).symm
theorem land_cover (i : S4x32x32x128.Idx) : ∃ t, i ∈ (landR t).set := by
  have h0 : (i 0).val < 4 := (i 0).isLt
  have h1 : (i 1).val < 32 := (i 1).isLt
  have h2 : (i 2).val < 32 := (i 2).isLt
  have h3 : (i 3).val < 128 := (i 3).isLt
  have slot (r : Fin 4) (h : (i 0).val = r.val) : i ∈ (oSlotR r).set := inside (fun _ => rfl) fun a => by
    match a with
    | ⟨0, _⟩ => show r.val ≤ (i 0).val ∧ (i 0).val < r.val + 1; omega
    | ⟨1, _⟩ => show 0 ≤ (i 1).val ∧ (i 1).val < 0 + 32; omega
    | ⟨2, _⟩ => show 0 ≤ (i 2).val ∧ (i 2).val < 0 + 32; omega
    | ⟨3, _⟩ => show 0 ≤ (i 3).val ∧ (i 3).val < 0 + 128; omega
  obtain h | h | h | h : (i 0).val = 0 ∨ (i 0).val = 1 ∨ (i 0).val = 2 ∨ (i 0).val = 3 := by omega
  · by_cases hl : (i 1).val < 16
    · exact ⟨0, inside (fun _ => rfl) fun a => by
        match a with
        | ⟨0, _⟩ => show 0 ≤ (i 0).val ∧ (i 0).val < 0 + 1; omega
        | ⟨1, _⟩ => show 0 ≤ (i 1).val ∧ (i 1).val < 0 + 16; omega
        | ⟨2, _⟩ => show 0 ≤ (i 2).val ∧ (i 2).val < 0 + 32; omega
        | ⟨3, _⟩ => show 0 ≤ (i 3).val ∧ (i 3).val < 0 + 128; omega⟩
    · exact ⟨1, inside (fun _ => rfl) fun a => by
        match a with
        | ⟨0, _⟩ => show 0 ≤ (i 0).val ∧ (i 0).val < 0 + 1; omega
        | ⟨1, _⟩ => show 16 ≤ (i 1).val ∧ (i 1).val < 16 + 16; omega
        | ⟨2, _⟩ => show 0 ≤ (i 2).val ∧ (i 2).val < 0 + 32; omega
        | ⟨3, _⟩ => show 0 ≤ (i 3).val ∧ (i 3).val < 0 + 128; omega⟩
  · exact ⟨2, slot 1 h⟩
  · exact ⟨3, slot 2 h⟩
  · exact ⟨4, slot 3 h⟩

theorem lands_eq (c : Dev nD) : (bigSep Finset.univ fun t => iprop(∃ X, hold (F := F) c (orM.slice (landR t) (land_stride t)) X))
    = iprop((∃ X, hold (F := F) c (orM.slice oLoR (fun _ => rfl)) X) ∗ (∃ X, hold (F := F) c (orM.slice oHiR (fun _ => rfl)) X)
      ∗ (∃ X, hold (F := F) c (orM.slice (oSlotR 1) (fun _ => rfl)) X) ∗ (∃ X, hold (F := F) c (orM.slice (oSlotR 2) (fun _ => rfl)) X)
      ∗ ∃ X, hold (F := F) c (orM.slice (oSlotR 3) (fun _ => rfl)) X) := by
  rw [bigSep_univ_eq_bigSepL [0, 1, 2, 3, 4] (by decide) (by decide)]; rfl

theorem lslots_apart (r r' : Fin 4) (h : r ≠ r') : Disjoint (lSlotR r).set (lSlotR r').set :=
  apart 0 rfl rfl (by
    have : r.val ≠ r'.val := fun e => h (Fin.ext e)
    show r.val + 1 ≤ r'.val ∨ r'.val + 1 ≤ r.val
    omega)
theorem lslots_cover (i : S4x32x128.Idx) : ∃ r, i ∈ (lSlotR r).set :=
  ⟨i 0, inside (fun _ => rfl) fun a => by
    match a with
    | ⟨0, _⟩ => show (i 0).val ≤ (i 0).val ∧ (i 0).val < (i 0).val + 1; omega
    | ⟨1, _⟩ => have : (i 1).val < 32 := (i 1).isLt; show 0 ≤ (i 1).val ∧ (i 1).val < 0 + 32; omega
    | ⟨2, _⟩ => have : (i 2).val < 128 := (i 2).isLt; show 0 ≤ (i 2).val ∧ (i 2).val < 0 + 128; omega⟩
theorem lslots_eq (c : Dev nD) : (bigSep Finset.univ fun r => iprop(∃ X, hold (F := F) c (lrM.slice (lSlotR r) (fun _ => rfl)) X))
    = iprop((∃ X, hold (F := F) c (lrM.slice (lSlotR 0) (fun _ => rfl)) X) ∗ (∃ X, hold (F := F) c (lrM.slice (lSlotR 1) (fun _ => rfl)) X)
      ∗ (∃ X, hold (F := F) c (lrM.slice (lSlotR 2) (fun _ => rfl)) X) ∗ ∃ X, hold (F := F) c (lrM.slice (lSlotR 3) (fun _ => rfl)) X) := by
  rw [bigSep_univ_eq_bigSepL [0, 1, 2, 3] (by decide) (by decide)]; rfl

/-- All the slots of a device. -/
def allSlots (c : Dev nD) : sProp 𝕄 := iprop(slots c 0 ∗ slots c 1 ∗ slots c 2 ∗ slots c 3)

theorem allSlots_eq (c : Dev nD) : allSlots (F := F) c
    = iprop((((∃ X, hold c oLandLo X) ∗ ∃ X, hold c oLandHi X) ∗ ∃ X, hold c (lLand 0) X)
      ∗ ((∃ X, hold c (oLand 1) X) ∗ ∃ X, hold c (lLand 1) X)
      ∗ ((∃ X, hold c (oLand 2) X) ∗ ∃ X, hold c (lLand 2) X) ∗ ((∃ X, hold c (oLand 3) X) ∗ ∃ X, hold c (lLand 3) X)) := rfl

theorem slots_cut (c : Dev nD) : iprop((∃ X, hold (F := F) c orM X) ∗ ∃ X, hold (F := F) c lrM X) ⊢ allSlots (F := F) c := by
  have h1 := (hold_cut (F := F) (c := c) orM landR land_stride land_apart land_cover).trans (Entails.of_eq (lands_eq c))
  have h2 := (hold_cut (F := F) (c := c) lrM lSlotR (fun _ _ => rfl) lslots_apart lslots_cover).trans (Entails.of_eq (lslots_eq c))
  have lo := hold_squeeze (F := F) (c := c) orM oLoR (fun _ => rfl) squeezes_S1x16x32x128_S16x32x128
  have hi := hold_squeeze (F := F) (c := c) orM oHiR (fun _ => rfl) squeezes_S1x16x32x128_S16x32x128
  have o (r : Fin 4) := hold_squeeze (F := F) (c := c) orM (oSlotR r) (fun _ => rfl) squeezes_S1x32x32x128_S32x32x128
  have l (r : Fin 4) := hold_squeeze (F := F) (c := c) lrM (lSlotR r) (fun _ => rfl) squeezes_S1x32x128_S32x128
  rw [allSlots_eq]
  iintro ⟨Ho, Hl⟩
  ihave Ho := h1 $$ Ho
  ihave Hl := h2 $$ Hl
  icases Ho with ⟨Hlo, Hhi, H1, H2, H3⟩
  icases Hl with ⟨L0, L1, L2, L3⟩
  isplitl [Hlo Hhi L0]
  · isplitl [Hlo Hhi]
    · isplitl [Hlo]
      · iapply lo; iexact Hlo
      · iapply hi; iexact Hhi
    · iapply (l 0); iexact L0
  isplitl [H1 L1]
  · isplitl [H1]
    · iapply (o 1); iexact H1
    · iapply (l 1); iexact L1
  isplitl [H2 L2]
  · isplitl [H2]
    · iapply (o 2); iexact H2
    · iapply (l 2); iexact L2
  · isplitl [H3]
    · iapply (o 3); iexact H3
    · iapply (l 3); iexact L3

theorem slots_join (c : Dev nD) : allSlots (F := F) c ⊢ iprop((∃ X, hold (F := F) c orM X) ∗ ∃ X, hold (F := F) c lrM X) := by
  have h1 := (Entails.of_eq (lands_eq (F := F) c).symm).trans (hold_join (F := F) (c := c) orM landR land_stride land_apart land_cover)
  have h2 := (Entails.of_eq (lslots_eq (F := F) c).symm).trans (hold_join (F := F) (c := c) lrM lSlotR (fun _ _ => rfl) lslots_apart lslots_cover)
  have lo := hold_unsqueeze (F := F) (c := c) orM oLoR (fun _ => rfl) squeezes_S1x16x32x128_S16x32x128
  have hi := hold_unsqueeze (F := F) (c := c) orM oHiR (fun _ => rfl) squeezes_S1x16x32x128_S16x32x128
  have o (r : Fin 4) := hold_unsqueeze (F := F) (c := c) orM (oSlotR r) (fun _ => rfl) squeezes_S1x32x32x128_S32x32x128
  have l (r : Fin 4) := hold_unsqueeze (F := F) (c := c) lrM (lSlotR r) (fun _ => rfl) squeezes_S1x32x128_S32x128
  rw [allSlots_eq]
  iintro ⟨⟨⟨Hlo, Hhi⟩, L0⟩, ⟨H1, L1⟩, ⟨H2, L2⟩, ⟨H3, L3⟩⟩
  isplitl [Hlo Hhi H1 H2 H3]
  · iapply h1
    isplitl [Hlo]; · iapply lo; iexact Hlo
    isplitl [Hhi]; · iapply hi; iexact Hhi
    isplitl [H1]; · iapply (o 1); iexact H1
    isplitl [H2]; · iapply (o 2); iexact H2
    iapply (o 3); iexact H3
  · iapply h2
    isplitl [L0]; · iapply (l 0); iexact L0
    isplitl [L1]; · iapply (l 1); iexact L1
    isplitl [L2]; · iapply (l 2); iexact L2
    iapply (l 3); iexact L3

end Cert.KernelIdeal.Flash

end

end
-- ==== Proof.Body.lean ====
/- The whole body, from a device's buffers and its part of the schedule to the attention of all the keys. -/
module

public import proofs.«01_k».proof.Proof.Buffers

@[expose] public section

noncomputable section

namespace Cert.KernelIdeal.Flash

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] [Named F]

local notation "𝕄" => MT nD τ sig Unit (Elt F) ℕ UU ℕ

/-! ## The partners' numbers, as the program computes them -/

theorem dev1_eq : ∀ c : Dev nD, (⟨k0_dev1 c, k0_dev1_lt c⟩ : Dev nD) = par 0 c := by decide
theorem dev2_eq : ∀ c : Dev nD, (⟨k0_dev2 c, k0_dev2_lt c⟩ : Dev nD) = par 1 c := by decide
theorem dev3_eq : ∀ c : Dev nD, (⟨k0_dev3 c, k0_dev3_lt c⟩ : Dev nD) = par 2 c := by decide
theorem dev4_eq : ∀ c : Dev nD, (⟨k0_dev4 c, k0_dev4_lt c⟩ : Dev nD) = par 3 c := by decide
theorem dev5_eq : ∀ c : Dev nD, (⟨k0_dev5 c, k0_dev5_lt c⟩ : Dev nD) = par 0 c := by decide
theorem dev6_eq : ∀ c : Dev nD, (⟨k0_dev6 c, k0_dev6_lt c⟩ : Dev nD) = par 0 c := by decide
theorem dev7_eq : ∀ c : Dev nD, (⟨k0_dev7 c, k0_dev7_lt c⟩ : Dev nD) = par 0 c := by decide
theorem dev8_eq : ∀ c : Dev nD, (⟨k0_dev8 c, k0_dev8_lt c⟩ : Dev nD) = par 1 c := by decide
theorem dev9_eq : ∀ c : Dev nD, (⟨k0_dev9 c, k0_dev9_lt c⟩ : Dev nD) = par 1 c := by decide
theorem dev10_eq : ∀ c : Dev nD, (⟨k0_dev10 c, k0_dev10_lt c⟩ : Dev nD) = par 2 c := by decide
theorem dev11_eq : ∀ c : Dev nD, (⟨k0_dev11 c, k0_dev11_lt c⟩ : Dev nD) = par 2 c := by decide
theorem dev12_eq : ∀ c : Dev nD, (⟨k0_dev12 c, k0_dev12_lt c⟩ : Dev nD) = par 3 c := by decide
theorem dev13_eq : ∀ c : Dev nD, (⟨k0_dev13 c, k0_dev13_lt c⟩ : Dev nD) = par 3 c := by decide
theorem dev14_eq : ∀ c : Dev nD, (⟨k0_dev14 c, k0_dev14_lt c⟩ : Dev nD) = par 0 c := by decide
theorem dev15_eq : ∀ c : Dev nD, (⟨k0_dev15 c, k0_dev15_lt c⟩ : Dev nD) = par 1 c := by decide
theorem dev16_eq : ∀ c : Dev nD, (⟨k0_dev16 c, k0_dev16_lt c⟩ : Dev nD) = par 2 c := by decide
theorem dev17_eq : ∀ c : Dev nD, (⟨k0_dev17 c, k0_dev17_lt c⟩ : Dev nD) = par 3 c := by decide

variable {c : Dev nD} {Q : Post F} (x : In F) (K : GSem nD τ sig → ℕ)

/-! ## The first round -/

/-- What the first round's sendings take of a device's own, and its waits; -/
def firstIn (c : Dev nD) : sProp 𝕄 :=
  iprop((tkS c .sLo ∗ tk c (.rLo, 0) ∗ pos c 0 .sLo ∗ pos c 0 .rLo ∗ crd c .rLo)
    ∗ (tkS c .sHi ∗ tk c (.rHi, 0) ∗ pos c 0 .sHi ∗ pos c 0 .rHi ∗ crd c .rHi)
    ∗ (tkS c (.sLse 0) ∗ tk c (.rLse 0, 0) ∗ pos c 0 (.sLse 0) ∗ pos c 0 (.rLse 0) ∗ crd c (.rLse 0)))
def firstOut (c : Dev nD) : sProp 𝕄 :=
  iprop((pos c 1 .sLo ∗ pos c 1 .rLo ∗ pos c 1 .sHi ∗ pos c 1 .rHi ∗ pos c 1 (.sLse 0) ∗ pos c 1 (.rLse 0)) ∗ slots c 0)

/-- The four tokens of a barrier. -/
def barIn (kd : Cell) (c : Dev nD) : sProp 𝕄 :=
  iprop((tk c (kd, 0) ∗ tk c (kd, 1) ∗ tk c (kd, 2) ∗ tk c (kd, 3)) ∗ pos c 0 kd ∗ crd c kd)

/-- Every partner's first barrier is at round 0. -/
def near (c : Dev nD) : sProp 𝕄 :=
  iprop(reached (ER (F := F)) (cell (par 0 c) .b0) 0 ∗ reached (ER (F := F)) (cell (par 1 c) .b0) 0
    ∗ reached (ER (F := F)) (cell (par 2 c) .b0) 0 ∗ reached (ER (F := F)) (cell (par 3 c) .b0) 0)
instance near_persistent (c : Dev nD) : BI.Persistent (near (F := F) c) := by unfold near; infer_instance

theorem four_eq (Φ : Fin 4 → sProp 𝕄) : bigSep Finset.univ Φ = iprop(Φ 0 ∗ Φ 1 ∗ Φ 2 ∗ Φ 3) := by
  rw [bigSep_univ_eq_bigSepL [0, 1, 2, 3] (by decide) (by decide)]; rfl

theorem signalling_b0 (d : Fin 4) :
    signalling x .b0 c d = iprop(tk c (.b0, d) ∗ (slots c d ∗ allReached c) ∗ reached (ER (F := F)) (cell (par d.val c) .b0) 0) := by
  unfold signalling; rw [pay_b0, par_par]
theorem signalling_b1 (d : Fin 4) :
    signalling x .b1 c d = iprop(tk c (.b1, d) ∗ emp ∗ reached (ER (F := F)) (cell (par d.val c) .b1) 0) := rfl

theorem lvl_toks0 : ∀ t ∈ toksB, lvl .b0 < lvl t.1 := by decide
theorem lvl_toksA : ∀ t ∈ toksA, 0 < lvl t.1 := by decide
theorem lvl_toks0' : ∀ t ∈ toks0, 0 < lvl t.1 := by decide
theorem lvl_toks1 : ∀ t ∈ toks1, 2 < lvl t.1 := by decide
theorem lvl_toks2 : ∀ t ∈ toks2, 3 + (0 : Fin 3).val < lvl t.1 := by decide
theorem lvl_toks3 : ∀ t ∈ toks3, 3 + (1 : Fin 3).val < lvl t.1 := by decide
theorem lvl_toks4 : ∀ t ∈ toks4, 3 + (2 : Fin 3).val < lvl t.1 := by decide

theorem toksA_eq : toksA = (.b0, 0) :: (.b0, 1) :: (.b0, 2) :: (.b0, 3) :: toksB := rfl
theorem toksB_eq : toksB = (.rLo, 0) :: toks0 := rfl
theorem toks0_eq : toks0 = (.rHi, 0) :: (.rLse 0, 0) :: toks1 := rfl
theorem toks1_eq : toks1 = (.rAll 0, 0) :: (.rLse (0 : Fin 3).succ, 0) :: toks2 := rfl
theorem toks2_eq : toks2 = (.rAll 1, 0) :: (.rLse (1 : Fin 3).succ, 0) :: toks3 := rfl
theorem toks3_eq : toks3 = (.rAll 2, 0) :: (.rLse (2 : Fin 3).succ, 0) :: toks4 := rfl
theorem toks4_eq : toks4 = [(.b1, 0), (.b1, 1), (.b1, 2), (.b1, 3)] := rfl

/-- Before the body: -/
def bodyIn (qM uM : Memref sig .tc .vmem S32x32x128 .f32) (c : Dev nD) : sProp 𝕄 :=
  iprop((hold c qM (x.q c) ∗ ∃ X, hold c uM X) ∗ bigSep Finset.univ (idle x c) ∗ ((∃ X, hold c oM X) ∗ (∃ X, hold c lM X) ∗ ∃ X, hold c sM X)
    ∗ allSlots c ∗ near c ∗ barIn .b0 c ∗ firstIn c ∗ (roundIn 0 c ∗ roundIn 1 c ∗ roundIn 2 c) ∗ barIn .b1 c)
/-- and after. -/
def bodyOut (qM uM : Memref sig .tc .vmem S32x32x128 .f32) (c : Dev nD) : sProp 𝕄 :=
  iprop((hold c qM (x.q c) ∗ hold c uM (st x 4 c).o) ∗ bigSep Finset.univ (done x c) ∗ ((∃ X, hold c oM X) ∗ (∃ X, hold c lM X) ∗ ∃ X, hold c sM X)
    ∗ pos c 1 .b0 ∗ firstOut c ∗ (roundOut 0 c ∗ roundOut 1 c ∗ roundOut 2 c) ∗ pos c 1 .b1)

/-! ## The body by phases -/

variable {k : Body F} (qM uM : Memref sig .tc .vmem S32x32x128 .f32)

set_option maxRecDepth 8192 in
/-- A device's own sixteen first rows, the first half staged. -/
theorem run_phase1 (ts : List Tok) (h : ∀ t ∈ ts, 0 < lvl t.1) :
    iprop(ctx x K c ∗ ow c ts ∗ hold c qM (x.q c) ∗ bigSep Finset.univ (idle x c) ∗ (∃ X, hold c oM X) ∗ (∃ X, hold c lM X) ∗ ∃ X, hold c oSendLo X)
      ⊢ iprop(((ow c ts ∗ hold c qM (x.q c) ∗ bigSep (rng 0 16) (done x c) ∗ bigSep (rng 16 16) (busy x c) ∗ partO x c 16 ∗ partL x c 16
            ∗ hold c oSendLo (sLo (st x 0 c).o)) -∗ run c k Q)
        -∗ run c (starts c 32 0 (by omega) <| clear <| iters qM c 16 0 (by omega) <| stageLo k) Q) := by
  have hlev := @ctx_lev F _ _ c x K
  iintro ⟨#Hctx, HO, Hq, Hidle, ⟨%X, Ho⟩, ⟨%Y, Hl⟩, Hs⟩ Hk
  ihave #Hlev := hlev $$ Hctx
  have hall : (Finset.univ : Finset (Fin 32)) = rng 0 32 := by decide
  iapply (run_starts x c 32 0 _) $$ [Hidle]
  · rw [← hall]; iexact Hidle
  rw [← hall, bigSep_rng_split]
  iintro ⟨Hb, Hb'⟩
  iapply (run_clear x c) $$ [Hl]
  · iexact Hl
  iintro Hl
  iapply (run_iters x c qM ts h 16 0 _) $$ [Hb HO Hq Ho Hl]
  · isplitl [Hb]; · iexact Hb
    isplitr; · iexact Hlev
    isplitl [HO]; · iexact HO
    isplitl [Hq]; · iexact Hq
    isplitl [Ho]
    · unfold partO
      iexists X
      isplitr; · ipureintro; intro i hi; exact absurd hi (Nat.not_lt_zero _)
      iexact Ho
    · iexact Hl
  unfold partO
  iintro ⟨Hd, HO, Hq, ⟨%f, %hf, Ho⟩, Hl⟩
  iapply (run_stageLo c) $$ [Ho Hs]
  · isplitl [Ho]; · iexact Ho
    iexact Hs
  rw [show sLo f = sLo (st x 0 c).o from congrArg k0_pay116 (funext fun i => hf _ (by
    have h2 : (loR.emb i 0 : ℕ) = 0 + 1 * (i 0).val := Rect.emb_apply loR i 0
    have h3 : (i 0).val < 16 := (i 0).isLt
    omega))]
  iintro ⟨Ho, Hs⟩
  iapply Hk
  isplitl [HO]; · iexact HO
  isplitl [Hq]; · iexact Hq
  isplitl [Hd]; · iexact Hd
  isplitl [Hb']; · iexact Hb'
  isplitl [Ho]
  · iexists f
    isplitr; · ipureintro; exact hf
    iexact Ho
  isplitl [Hl]; · iexact Hl
  iexact Hs

/-- The first barrier: each device hands its landing slots to the partners they are for. -/
theorem run_phase2 (p0 p1 p2 p3 : Dev nD) (h0 : p0 = par 0 c) (h1 : p1 = par 1 c) (h2 : p2 = par 2 c) (h3 : p3 = par 3 c) :
    iprop(ctx x K c ∗ ow c toksA ∗ allSlots c ∗ near c ∗ barIn .b0 c)
      ⊢ iprop(((ow c toksB ∗ pos c 1 .b0 ∗ (pay x c .b0 0 ∗ pay x c .b0 1 ∗ pay x c .b0 2 ∗ pay x c .b0 3)) -∗ run c k Q)
        -∗ run c (barrier bar0 p0 p1 p2 p3 k) Q) := by
  have hr : ctx x K c ⊢ allReached c := by unfold ctx; iintro ⟨-, -, #H⟩; iexact H
  have hb := run_barrier (Q := Q) (k := k) x K .b0 rfl rfl rfl (fun _ => rfl) p0 p1 p2 p3 h0 h1 h2 h3 toksB lvl_toks0
  rw [four_eq, signalling_b0, signalling_b0, signalling_b0, signalling_b0] at hb
  unfold allSlots near barIn
  iintro ⟨#Hctx, HO, ⟨S0, S1, S2, S3⟩, ⟨#R0, #R1, #R2, #R3⟩, ⟨T0, T1, T2, T3⟩, Hat, Hc⟩ Hk
  ihave #Hr := hr $$ Hctx
  iapply hb $$ [HO S0 S1 S2 S3 T0 T1 T2 T3 Hat Hc]
  · isplitr; · iexact Hctx
    isplitl [HO]; · iexact HO
    isplitl [S0 S1 S2 S3 T0 T1 T2 T3]
    · isplitl [S0 T0]
      · isplitl [T0]; · iexact T0
        isplitl [S0]
        · isplitl [S0]; · iexact S0
          iexact Hr
        iexact R0
      isplitl [S1 T1]
      · isplitl [T1]; · iexact T1
        isplitl [S1]
        · isplitl [S1]; · iexact S1
          iexact Hr
        iexact R1
      isplitl [S2 T2]
      · isplitl [T2]; · iexact T2
        isplitl [S2]
        · isplitl [S2]; · iexact S2
          iexact Hr
        iexact R2
      · isplitl [T3]; · iexact T3
        isplitl [S3]
        · isplitl [S3]; · iexact S3
          iexact Hr
        iexact R3
    isplitl [Hat]; · iexact Hat
    iexact Hc
  iintro H
  iapply Hk
  iexact H

set_option maxRecDepth 8192 in
/-- The first round: the first half sent, the other sixteen rows, the second half and the log-sum-exps sent, all merged. -/
theorem run_phase3 (p q r : Dev nD) (hp : p = par 0 c) (hq : q = par 0 c) (hr : r = par 0 c) :
    iprop(ctx x K c ∗ ow c toksB ∗ hold c qM (x.q c) ∗ bigSep (rng 16 16) (busy x c) ∗ partO x c 16 ∗ partL x c 16
        ∗ hold c oSendLo (sLo (st x 0 c).o) ∗ (∃ X, hold c oSendHi X) ∗ pay x c .b0 0 ∗ firstIn c)
      ⊢ iprop(((ow c toks1 ∗ hold c qM (x.q c) ∗ bigSep (rng 16 16) (done x c) ∗ state x 1 c ∗ firstOut c) -∗ run c k Q)
        -∗ run c (sendLo p <| iters qM c 16 16 (by omega) <| stageHi <| sendHi q <| sendLse 0 r <| waitLse 0 <| mergeLse 0 fun w => waitLo <|
            mergeLo w <| waitHi <| mergeHi w k) Q) := by
  have hqp : p = q := hp.trans hq.symm
  have hrp : p = r := hp.trans hr.symm
  subst hqp hrp
  have hlev := @ctx_lev F _ _ c x K
  have hpay : pay x c .b0 0 ⊢ iprop(((∃ X, hold p oLandLo X) ∗ ∃ X, hold p oLandHi X) ∗ (∃ X, hold p (lLand 0) X) ∗ allReached p) := by
    subst hp
    rw [pay_b0, slots_zero]
    iintro ⟨⟨Ho, Hl⟩, Hr⟩
    isplitl [Ho]; · iexact Ho
    isplitl [Hl]; · iexact Hl
    iexact Hr
  have hj := halves_join (F := F) c
  have hs := send_cut (F := F) c
  unfold firstIn firstOut state
  rw [toksB_eq, toks0_eq, slots_zero]
  iintro ⟨#Hctx, HO, Hq, Hb, Ho, Hl, Hlo, Hhi, Hp, ⟨TS, TR, AS, AR, CR⟩, ⟨TS', TR', AS', AR', CR'⟩, TS'', TR'', AS'', AR'', CR''⟩ Hk
  ihave #Hlev := hlev $$ Hctx
  ihave H := hpay $$ Hp
  icases H with ⟨⟨Hd, Hd'⟩, Hd'', #Hr⟩
  iapply (run_sendLo x K p ((.rHi, 0) :: (.rLse 0, 0) :: toks1) hp) $$ [HO Hlo Hd TS TR]
  · isplitr; · iexact Hctx
    isplitl [HO]; · iexact HO
    unfold sending
    isplitl [Hlo]; · iexact Hlo
    isplitl [Hd]; · iexact Hd
    isplitl [TS]; · iexact TS
    isplitl [TR]; · iexact TR
    iexact Hr
  iintro ⟨CS, HO⟩
  iapply (run_iters x c qM ((.rHi, 0) :: (.rLse 0, 0) :: toks1) lvl_toks0' 16 16 _) $$ [Hb HO Hq Ho Hl]
  · isplitl [Hb]; · iexact Hb
    isplitr; · iexact Hlev
    isplitl [HO]; · iexact HO
    isplitl [Hq]; · iexact Hq
    isplitl [Ho]; · iexact Ho
    iexact Hl
  unfold partO partL
  iintro ⟨Hdone, HO, Hq, ⟨%f, %hf, Ho⟩, ⟨%g, %hg, Hl⟩⟩
  have ef : f = (st x 0 c).o := funext fun i => hf i (i 0).isLt
  have eg : g = (st x (0 : Fin 4).val c).l := funext fun i => hg i (Nat.lt_or_ge _ _)
  subst ef eg
  iapply (run_stageHi c) $$ [Ho Hhi]
  · isplitl [Ho]; · iexact Ho
    iexact Hhi
  iintro ⟨Ho, Hhi⟩
  iapply (run_sendHi x K p ((.rLse 0, 0) :: toks1) hp) $$ [HO Hhi Hd' TS' TR']
  · isplitr; · iexact Hctx
    isplitl [HO]; · iexact HO
    unfold sending
    isplitl [Hhi]; · iexact Hhi
    isplitl [Hd']; · iexact Hd'
    isplitl [TS']; · iexact TS'
    isplitl [TR']; · iexact TR'
    iexact Hr
  iintro ⟨CS', HO⟩
  iapply (run_sendLse x K p toks1 0 hp) $$ [HO Hl Hd'' TS'' TR'']
  · isplitr; · iexact Hctx
    isplitl [HO]; · iexact HO
    unfold sending
    isplitl [Hl]; · iexact Hl
    isplitl [Hd'']; · iexact Hd''
    isplitl [TS'']; · iexact TS''
    isplitl [TR'']; · iexact TR''
    iexact Hr
  iintro ⟨CS'', HO⟩
  iapply (run_waitLse x K toks1 0 lvl_toks1) $$ [HO AS'' AR'' CS'' CR'']
  · isplitr; · iexact Hctx
    isplitl [HO]; · iexact HO
    unfold awaiting
    isplitl [AS'' CS'']
    · isplitl [AS'']; · iexact AS''
      iexact CS''
    · isplitl [AR'']; · iexact AR''
      iexact CR''
  rw [awaited_lse]
  iintro ⟨HO, ⟨AS'', Hl⟩, AR'', Hl'⟩
  iapply (run_mergeLse c 0 (l := (st x 0 c).l) (l' := (st x 0 (par 0 c)).l)) $$ [Hl Hl']
  · isplitl [Hl]; · iexact Hl
    iexact Hl'
  iintro ⟨Hl, Hl'⟩
  iapply (run_waitLo x K toks1 lvl_toks1) $$ [HO AS AR CS CR]
  · isplitr; · iexact Hctx
    isplitl [HO]; · iexact HO
    unfold awaiting
    isplitl [AS CS]
    · isplitl [AS]; · iexact AS
      iexact CS
    · isplitl [AR]; · iexact AR
      iexact CR
  rw [awaited_lo]
  iintro ⟨HO, ⟨AS, Hlo⟩, AR, Hlo'⟩
  iapply (run_mergeLo c _ (O := (st x 0 c).o) (s := sLo (st x 0 (par 0 c)).o)) $$ [Ho Hlo']
  · isplitl [Ho]; · iexact Ho
    iexact Hlo'
  iintro ⟨Ho, Hlo'⟩
  iapply (run_waitHi x K toks1 lvl_toks1) $$ [HO AS' AR' CS' CR']
  · isplitr; · iexact Hctx
    isplitl [HO]; · iexact HO
    unfold awaiting
    isplitl [AS' CS']
    · isplitl [AS']; · iexact AS'
      iexact CS'
    · isplitl [AR']; · iexact AR'
      iexact CR'
  rw [awaited_hi]
  iintro ⟨HO, ⟨AS', Hhi⟩, AR', Hhi'⟩
  iapply (run_mergeHi c _ (s := sHi (st x 0 (par 0 c)).o)) $$ [Ho Hhi']
  · isplitl [Ho]; · iexact Ho
    iexact Hhi'
  rw [glue_eq]
  iintro ⟨Ho, Hhi'⟩
  ihave Hs := hj $$ [Hlo Hhi]
  · isplitl [Hlo]
    · iexists _; iexact Hlo
    · iexists _; iexact Hhi
  ihave Hs := hs $$ Hs
  iapply Hk
  isplitl [HO]; · iexact HO
  isplitl [Hq]; · iexact Hq
  isplitl [Hdone]; · iexact Hdone
  isplitl [Ho Hl Hs]
  · isplitl [Ho]; · iexact Ho
    isplitl [Hl]; · iexact Hl
    iexact Hs
  isplitl [AS AR AS' AR' AS'' AR'']
  · isplitl [AS]; · iexact AS
    isplitl [AR]; · iexact AR
    isplitl [AS']; · iexact AS'
    isplitl [AR']; · iexact AR'
    isplitl [AS'']; · iexact AS''
    iexact AR''
  isplitl [Hlo' Hhi']
  · isplitl [Hlo']
    · iexists _; iexact Hlo'
    · iexists _; iexact Hhi'
  · iexists _; iexact Hl'

/-- The last barrier. -/
theorem run_phase4 (p0 p1 p2 p3 : Dev nD) (h0 : p0 = par 0 c) (h1 : p1 = par 1 c) (h2 : p2 = par 2 c) (h3 : p3 = par 3 c) :
    iprop(ctx x K c ∗ ow c toks4 ∗ (allReached (par 0 c) ∗ allReached (par 1 c) ∗ allReached (par 2 c) ∗ allReached (par 3 c)) ∗ barIn .b1 c)
      ⊢ iprop(((ow c [] ∗ pos c 1 .b1) -∗ run c k Q) -∗ run c (barrier bar1 p0 p1 p2 p3 k) Q) := by
  have hb := run_barrier (Q := Q) (k := k) x K .b1 rfl rfl rfl (fun _ => rfl) p0 p1 p2 p3 h0 h1 h2 h3 [] (by simp)
  rw [signalling_b1, signalling_b1, signalling_b1, signalling_b1] at hb
  have hr (d : Fin 4) := reached_of (F := F) (par d.val c) .b1
  unfold barIn
  rw [toks4_eq]
  iintro ⟨#Hctx, HO, ⟨#R0, #R1, #R2, #R3⟩, ⟨T0, T1, T2, T3⟩, Hat, Hc⟩ Hk
  iapply hb $$ [HO T0 T1 T2 T3 Hat Hc]
  · isplitr; · iexact Hctx
    isplitl [HO]; · iexact HO
    isplitl [T0 T1 T2 T3]
    · isplitl [T0]
      · isplitl [T0]; · iexact T0
        isplitr; · iempintro
        iapply (hr 0); iexact R0
      isplitl [T1]
      · isplitl [T1]; · iexact T1
        isplitr; · iempintro
        iapply (hr 1); iexact R1
      isplitl [T2]
      · isplitl [T2]; · iexact T2
        isplitr; · iempintro
        iapply (hr 2); iexact R2
      · isplitl [T3]; · iexact T3
        isplitr; · iempintro
        iapply (hr 3); iexact R3
    isplitl [Hat]; · iexact Hat
    iexact Hc
  iintro ⟨HO, Hat, -⟩
  iapply Hk
  isplitl [HO]; · iexact HO
  iexact Hat

/-! ## The whole body -/

theorem run_deviceId {k : Dev nD → Body F} : run c (k c) Q ⊢ run c (.op .deviceId k) Q := by
  unfold run
  rw [wp_deviceId, show ((c : Thread nD τ)).1 = c from rfl]

theorem run_ret : Q ⟨⟩ ⊢ run c (.ret ⟨⟩) Q := by
  unfold run
  rw [wp_ret]
  iintro H
  imodintro
  iexact H

/-- A device runs the body from `bodyIn` to `bodyOut`. -/
theorem run_body :
    iprop(ctx x K c ∗ ow c toksA ∗ bodyIn x qM uM c)
      ⊢ iprop(((ow c [] ∗ bodyOut x qM uM c) -∗ Q ⟨⟩) -∗ run c (.op .deviceId fun d0 => bodyAt qM uM d0) Q) := by
  have hreach (d : Fin 4) : pay x c .b0 d ⊢ iprop(pay x c .b0 d ∗ allReached (par d.val c)) := by
    rw [pay_b0]
    iintro ⟨H, #Hr⟩
    isplitl [H]
    · isplitl [H]; · iexact H
      iexact Hr
    iexact Hr
  have hdev := run_deviceId (c := c) (Q := Q) (k := bodyAt qM uM)
  have hret := run_ret (c := c) (Q := Q)
  have hcut := halves_cut (F := F) c
  have hjoin := send_join (F := F) c
  unfold bodyIn bodyOut
  iintro ⟨#Hctx, HO, ⟨Hq, ⟨%U, Hu⟩⟩, Hidle, ⟨Ho, Hl, Hs⟩, Hslots, #Hnear, HB0, HF, ⟨HR0, HR1, HR2⟩, HB1⟩ Hk
  iapply hdev
  unfold bodyAt
  ihave Hs := hcut $$ Hs
  icases Hs with ⟨Hlo, Hhi⟩
  iapply (run_phase1 x K qM toksA lvl_toksA) $$ [HO Hq Hidle Ho Hl Hlo]
  · isplitr; · iexact Hctx
    isplitl [HO]; · iexact HO
    isplitl [Hq]; · iexact Hq
    isplitl [Hidle]; · iexact Hidle
    isplitl [Ho]; · iexact Ho
    isplitl [Hl]; · iexact Hl
    iexact Hlo
  iintro ⟨HO, Hq, Hd1, Hb, Ho, Hl, Hlo⟩
  iapply (run_phase2 x K _ _ _ _ (dev1_eq c) (dev2_eq c) (dev3_eq c) (dev4_eq c)) $$ [HO Hslots HB0]
  · isplitr; · iexact Hctx
    isplitl [HO]; · iexact HO
    isplitl [Hslots]; · iexact Hslots
    isplitr; · iexact Hnear
    iexact HB0
  iintro ⟨HO, HA0, P0, P1, P2, P3⟩
  ihave P0 := (hreach 0) $$ P0
  icases P0 with ⟨P0, #R0⟩
  ihave P1 := (hreach 1) $$ P1
  icases P1 with ⟨P1, #R1⟩
  ihave P2 := (hreach 2) $$ P2
  icases P2 with ⟨P2, #R2⟩
  ihave P3 := (hreach 3) $$ P3
  icases P3 with ⟨P3, #R3⟩
  iapply (run_phase3 x K qM _ _ _ (dev5_eq c) (dev6_eq c) (dev7_eq c)) $$ [HO Hq Hb Ho Hl Hlo Hhi P0 HF]
  · isplitr; · iexact Hctx
    isplitl [HO]; · iexact HO
    isplitl [Hq]; · iexact Hq
    isplitl [Hb]; · iexact Hb
    isplitl [Ho]; · iexact Ho
    isplitl [Hl]; · iexact Hl
    isplitl [Hlo]; · iexact Hlo
    isplitl [Hhi]; · iexact Hhi
    isplitl [P0]; · iexact P0
    iexact HF
  iintro ⟨HO, Hq, Hd2, Hst, HF⟩
  iapply (run_round x K 0 _ _ (dev8_eq c) (dev9_eq c) toks2 lvl_toks2) $$ [HO Hst P1 HR0]
  · isplitr; · iexact Hctx
    isplitl [HO]; · rw [toks1_eq]; iexact HO
    isplitl [Hst]; · iexact Hst
    isplitl [P1]; · iexact P1
    iexact HR0
  iintro ⟨HO, Hst, HR0⟩
  iapply (run_round x K 1 _ _ (dev10_eq c) (dev11_eq c) toks3 lvl_toks3) $$ [HO Hst P2 HR1]
  · isplitr; · iexact Hctx
    isplitl [HO]; · rw [toks2_eq]; iexact HO
    isplitl [Hst]; · iexact Hst
    isplitl [P2]; · iexact P2
    iexact HR1
  iintro ⟨HO, Hst, HR1⟩
  iapply (run_round x K 2 _ _ (dev12_eq c) (dev13_eq c) toks4 lvl_toks4) $$ [HO Hst P3 HR2]
  · isplitr; · iexact Hctx
    isplitl [HO]; · rw [toks3_eq]; iexact HO
    isplitl [Hst]; · iexact Hst
    isplitl [P3]; · iexact P3
    iexact HR2
  unfold state
  iintro ⟨HO, ⟨Ho, Hl, Hs⟩, HR2⟩
  iapply (run_emit c uM (O := (st x 4 c).o) (X := U)) $$ [Ho Hu]
  · isplitl [Ho]; · iexact Ho
    iexact Hu
  iintro ⟨Ho, Hu⟩
  iapply (run_phase4 x K _ _ _ _ (dev14_eq c) (dev15_eq c) (dev16_eq c) (dev17_eq c)) $$ [HO HB1]
  · isplitr; · iexact Hctx
    isplitl [HO]; · iexact HO
    isplitr
    · isplitr; · iexact R0
      isplitr; · iexact R1
      isplitr; · iexact R2
      iexact R3
    iexact HB1
  iintro ⟨HO, HA1⟩
  ihave Hs := hjoin $$ Hs
  iapply hret
  iapply Hk
  isplitl [HO]; · iexact HO
  isplitl [Hq Hu]
  · isplitl [Hq]; · iexact Hq
    iexact Hu
  isplitl [Hd1 Hd2]
  · rw [bigSep_rng_split]
    isplitl [Hd1]; · iexact Hd1
    iexact Hd2
  isplitl [Ho Hl Hs]
  · isplitl [Ho]; · iexists _; iexact Ho
    isplitl [Hl]; · iexists _; iexact Hl
    iexact Hs
  isplitl [HA0]; · iexact HA0
  isplitl [HF]; · iexact HF
  isplitl [HR0 HR1 HR2]
  · isplitl [HR0]; · iexact HR0
    isplitl [HR1]; · iexact HR1
    iexact HR2
  iexact HA1

end Cert.KernelIdeal.Flash

end

end
-- ==== Proof.Deal.lean ====
/- A device's part of the schedule, dealt cell by cell and gathered into what the body starts from; and its cells opened and closed. -/
module

public import proofs.«01_k».proof.Proof.Body

@[expose] public section

noncomputable section

namespace Cert.KernelIdeal.Flash

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] [Named F]

local notation "𝕄" => MT nD τ sig Unit (Elt F) ℕ UU ℕ

theorem bigSep_zip {ι : Type} (s : Finset ι) (Φ Ψ : ι → sProp 𝕄) : iprop(bigSep s Φ ∗ bigSep s Ψ) ⊢ bigSep s fun i => iprop(Φ i ∗ Ψ i) :=
  Entails.of_eq (bigSep_sep' s Φ Ψ).symm
theorem bigSep_unzip {ι : Type} (s : Finset ι) (Φ Ψ : ι → sProp 𝕄) : (bigSep s fun i => iprop(Φ i ∗ Ψ i)) ⊢ iprop(bigSep s Φ ∗ bigSep s Ψ) :=
  Entails.of_eq (bigSep_sep' s Φ Ψ)

/-! ## The nine transfers -/

/-- The cell a transfer leaves from, -/
def sndC : Fin 9 → Cell := ![.sLo, .sHi, .sLse 0, .sAll 0, .sLse 1, .sAll 1, .sLse 2, .sAll 2, .sLse 3]
/-- and the one it arrives at. -/
def rcvC : Fin 9 → Cell := ![.rLo, .rHi, .rLse 0, .rAll 0, .rLse 1, .rAll 1, .rLse 2, .rAll 2, .rLse 3]

/-- Every cell is a transfer's or a barrier's. -/
def cellOf' : Fin 9 ⊕ (Fin 9 ⊕ Bool) → Cell
  | .inl i => sndC i
  | .inr (.inl i) => rcvC i
  | .inr (.inr false) => .b0
  | .inr (.inr true) => .b1
def cellE : Fin 9 ⊕ (Fin 9 ⊕ Bool) ≃ Cell := Equiv.ofBijective cellOf' (by decide)

theorem cells_eq (Φ : Cell → sProp 𝕄) : bigSep Finset.univ Φ
    = iprop((bigSep Finset.univ fun i => Φ (sndC i)) ∗ (bigSep Finset.univ fun i => Φ (rcvC i)) ∗ Φ .b0 ∗ Φ .b1) := by
  rw [bigSep_univ_equiv cellE, bigSep_univ_sum, bigSep_univ_sum, bigSep_univ_eq_bigSepL [false, true] (by decide) (by decide)]
  rfl

theorem nine_eq (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) := by
  rw [bigSep_univ_eq_bigSepL [0, 1, 2, 3, 4, 5, 6, 7, 8] (by decide) (by decide)]; rfl

/-! ## What a device starts from -/

/-- The tokens: of the sending duties on its own cells, of its duties on its partners', and of its barrier signals. -/
def toks (c : Dev nD) : sProp 𝕄 :=
  iprop((bigSep Finset.univ fun i => tkS c (sndC i)) ∗ (bigSep Finset.univ fun i => tk c (rcvC i, 0))
    ∗ (bigSep Finset.univ fun t : Fin 4 => tk c (.b0, t)) ∗ (bigSep Finset.univ fun t : Fin 4 => tk c (.b1, t)))
/-- The credit of what is owed to its cells. -/
def creds (c : Dev nD) : sProp 𝕄 := iprop((bigSep Finset.univ fun i => crd c (rcvC i)) ∗ crd c .b0 ∗ crd c .b1)

/-- A transfer's part. -/
def leg (c : Dev nD) (i : Fin 9) : sProp 𝕄 :=
  iprop(tkS c (sndC i) ∗ tk c (rcvC i, 0) ∗ pos c 0 (sndC i) ∗ pos c 0 (rcvC i) ∗ crd c (rcvC i))

theorem firstIn_legs (c : Dev nD) : firstIn (F := F) c = iprop(leg c 0 ∗ leg c 1 ∗ leg c 2) := rfl
theorem roundIn_legs0 (c : Dev nD) : roundIn (F := F) 0 c = iprop(leg c 3 ∗ leg c 4) := rfl
theorem roundIn_legs1 (c : Dev nD) : roundIn (F := F) 1 c = iprop(leg c 5 ∗ leg c 6) := rfl
theorem roundIn_legs2 (c : Dev nD) : roundIn (F := F) 2 c = iprop(leg c 7 ∗ leg c 8) := rfl

theorem gather (c : Dev nD) : iprop((bigSep Finset.univ fun k => pos c 0 k) ∗ toks c ∗ creds c)
    ⊢ (iprop(barIn .b0 c ∗ firstIn c ∗ (roundIn 0 c ∗ roundIn 1 c ∗ roundIn 2 c) ∗ barIn .b1 c) : sProp 𝕄) := by
  have hleg : iprop((bigSep Finset.univ fun i => tkS c (sndC i)) ∗ (bigSep Finset.univ fun i => tk c (rcvC i, 0))
      ∗ (bigSep Finset.univ fun i => pos c 0 (sndC i)) ∗ (bigSep Finset.univ fun i => pos c 0 (rcvC i)) ∗ bigSep Finset.univ fun i => crd c (rcvC i))
      ⊢ (iprop(leg c 0 ∗ leg c 1 ∗ leg c 2 ∗ leg c 3 ∗ leg c 4 ∗ leg c 5 ∗ leg c 6 ∗ leg c 7 ∗ leg c 8) : sProp 𝕄) := by
    rw [← nine_eq (leg c)]
    unfold leg
    rw [bigSep_sep', bigSep_sep', bigSep_sep', bigSep_sep']
  unfold toks creds
  rw [cells_eq, four_eq, four_eq, firstIn_legs, roundIn_legs0, roundIn_legs1, roundIn_legs2]
  iintro ⟨⟨Hps, Hpr, Hp0, Hp1⟩, ⟨Hts, Htr, Ht0, Ht1⟩, Hcr, Hc0, Hc1⟩
  ihave HL := hleg $$ [Hts Htr Hps Hpr Hcr]
  · isplitl [Hts]; · iexact Hts
    isplitl [Htr]; · iexact Htr
    isplitl [Hps]; · iexact Hps
    isplitl [Hpr]; · iexact Hpr
    iexact Hcr
  icases HL with ⟨H0, H1, H2, H3, H4, H5, H6, H7, H8⟩
  unfold barIn
  isplitl [Hp0 Ht0 Hc0]
  · isplitl [Ht0]; · iexact Ht0
    isplitl [Hp0]; · iexact Hp0
    iexact Hc0
  isplitl [H0 H1 H2]
  · isplitl [H0]; · iexact H0
    isplitl [H1]; · iexact H1
    iexact H2
  isplitl [H3 H4 H5 H6 H7 H8]
  · isplitl [H3 H4]
    · isplitl [H3]; · iexact H3
      iexact H4
    isplitl [H5 H6]
    · isplitl [H5]; · iexact H5
      iexact H6
    isplitl [H7]; · iexact H7
    iexact H8
  isplitl [Ht1]; · iexact Ht1
  isplitl [Hp1]; · iexact Hp1
  iexact Hc1

/-! ## What it ends with -/

theorem ungather (c : Dev nD) :
    iprop(pos c 1 .b0 ∗ firstOut c ∗ (roundOut 0 c ∗ roundOut 1 c ∗ roundOut 2 c) ∗ pos c 1 .b1)
    ⊢ (iprop((bigSep Finset.univ fun k => pos c 1 k) ∗ allSlots c) : sProp 𝕄) := by
  rw [cells_eq, nine_eq, nine_eq]
  unfold firstOut roundOut allSlots
  iintro ⟨Hb0, ⟨⟨HsL, HrL, HsH, HrH, Hs0, Hr0⟩, Hw0⟩, ⟨⟨⟨HsA1, HrA1, Hs1, Hr1⟩, Hw1⟩, ⟨⟨HsA2, HrA2, Hs2, Hr2⟩, Hw2⟩, ⟨HsA3, HrA3, Hs3, Hr3⟩, Hw3⟩, Hb1⟩
  isplitr [Hw0 Hw1 Hw2 Hw3]
  · isplitl [HsL HsH Hs0 HsA1 Hs1 HsA2 Hs2 HsA3 Hs3]
    · isplitl [HsL]; · iexact HsL
      isplitl [HsH]; · iexact HsH
      isplitl [Hs0]; · iexact Hs0
      isplitl [HsA1]; · iexact HsA1
      isplitl [Hs1]; · iexact Hs1
      isplitl [HsA2]; · iexact HsA2
      isplitl [Hs2]; · iexact Hs2
      isplitl [HsA3]; · iexact HsA3
      iexact Hs3
    isplitl [HrL HrH Hr0 HrA1 Hr1 HrA2 Hr2 HrA3 Hr3]
    · isplitl [HrL]; · iexact HrL
      isplitl [HrH]; · iexact HrH
      isplitl [Hr0]; · iexact Hr0
      isplitl [HrA1]; · iexact HrA1
      isplitl [Hr1]; · iexact Hr1
      isplitl [HrA2]; · iexact HrA2
      isplitl [Hr2]; · iexact Hr2
      isplitl [HrA3]; · iexact HrA3
      iexact Hr3
    isplitl [Hb0]; · iexact Hb0
    iexact Hb1
  isplitl [Hw0]; · iexact Hw0
  isplitl [Hw1]; · iexact Hw1
  isplitl [Hw2]; · iexact Hw2
  iexact Hw3

/-! ## Opening and closing -/

variable (x : In F) (K : GSem nD τ sig → ℕ)

/-- Every cell's record. -/
def invs : sProp 𝕄 := bigSep Finset.univ fun ck : Dev nD × Cell => cellInv (ER (F := F)) (sched x) (K (cell ck.1 ck.2)) (cell ck.1 ck.2)
instance invs_persistent : BI.Persistent (invs x K) := by unfold invs; infer_instance
theorem invs_at (c : Dev nD) (k : Cell) : invs x K ⊢ cellInv (ER (F := F)) (sched x) (K (cell c k)) (cell c k) := by
  unfold invs
  exact bigSep_elim (Finset.mem_univ (c, k))

theorem ctx_invs (c : Dev nD) : ctx x K c = iprop(invs x K ∗ levAts L lv ∗ allReached c) := rfl

/-- The cells that open at the kernel's entry. -/
abbrev Own : Type := {k : Cell // k ≠ .b0}

theorem own_eq (Φ : Cell → sProp 𝕄) : bigSep Finset.univ Φ = iprop(Φ .b0 ∗ bigSep (Finset.univ : Finset Own) fun k => Φ k.1) := by
  rw [bigSep_univ_split .b0, bigSep_subtype_ne]; rfl

theorem open_one (c : Dev nD) (k : Cell) :
    iprop(invs x K ∗ (openTok (ER (F := F)) (cell c k) ∗ semVal (cell c k) 0)) ⊢ (|={Set.univ}=> iprop(pos c 0 k ∗ reached (ER (F := F)) (cell c k) 0) : sProp 𝕄) := by
  iintro ⟨#HI, Ho, Hv⟩
  unfold pos
  iapply (Rounds.cell_open (ER (F := F)) (sched x) (g := cell c k) (Set.mem_univ (K (cell c k))))
  isplitr; · iapply (invs_at x K c k); iexact HI
  isplitl [Ho]; · iexact Ho
  iexact Hv

theorem open_all (c : Dev nD) :
    iprop(invs x K ∗ levAts L lv ∗ (pos c 0 .b0 ∗ reached (ER (F := F)) (cell c .b0) 0)
        ∗ (bigSep (Finset.univ : Finset Own) fun k => openTok (ER (F := F)) (cell c k.1)) ∗ bigSep (Finset.univ : Finset Own) fun k => semVal (cell c k.1) 0)
      ⊢ (|={Set.univ}=> iprop(ctx x K c ∗ bigSep Finset.univ fun k => pos c 0 k) : sProp 𝕄) := by
  have h : iprop(invs x K ∗ bigSep (Finset.univ : Finset Own) fun k => iprop(openTok (ER (F := F)) (cell c k.1) ∗ semVal (cell c k.1) 0))
      ⊢ (|={Set.univ}=> bigSep (Finset.univ : Finset Own) fun k => iprop(pos c 0 k.1 ∗ reached (ER (F := F)) (cell c k.1) 0) : sProp 𝕄) :=
    (bigSep_with_persistent fun (k : Own) _ => open_one x K c k.1).trans (bigSep_fupd _ _)
  rw [ctx_invs]
  iintro ⟨#HI, #HL, ⟨Hp, #Hr⟩, Ho, Hv⟩
  imod h $$ [Ho Hv] with H
  · isplitr; · iexact HI
    iapply bigSep_zip
    isplitl [Ho]; · iexact Ho
    iexact Hv
  ihave H' := (bigSep_unzip _ _ _) $$ H
  icases H' with ⟨Hps, #Hrs⟩
  imodintro
  isplitr
  · unfold allReached
    isplitr; · iexact HI
    isplitr; · iexact HL
    rw [own_eq]
    isplitr; · iexact Hr
    iexact Hrs
  rw [own_eq]
  isplitl [Hp]; · iexact Hp
  iexact Hps

theorem close_one (c : Dev nD) (k : Cell) : iprop(invs x K ∗ pos c 1 k) ⊢ (|={Set.univ}=> semVal (cell c k) 0 : sProp 𝕄) := by
  iintro ⟨#HI, Hp⟩
  unfold pos
  iapply (Rounds.cell_close (ER (F := F)) (sched x) (g := cell c k) (R := 1) (Set.mem_univ (K (cell c k))) id (fun r hr => duties_later x _ r hr))
  isplitr; · iapply (invs_at x K c k); iexact HI
  iexact Hp

theorem close_all (c : Dev nD) : iprop(invs x K ∗ bigSep Finset.univ fun k => pos c 1 k)
    ⊢ (|={Set.univ}=> bigSep Finset.univ fun k : Cell => semVal (cell c k) 0 : sProp 𝕄) :=
  (bigSep_with_persistent fun k _ => close_one x K c k).trans (bigSep_fupd _ _)

end Cert.KernelIdeal.Flash

end

end
-- ==== Proof.Region.lean ====
/- The kernel as one region of the program: what it is entered with, what it leaves, and its body's run at its one point. -/
module

public import proofs.«01_k».proof.Proof.Deal
public import proofs.«01_k».proof.Proof.Gen.KernelIdeal.Frame
public import Idealize.ShloMosaic.Lib.Pipeline.RegionTalk
public import Idealize.ShloMosaic.Lib.Pipeline.RegionArraysS
public import Idealize.ShloMosaic.Lib.Pipeline.ValueKit

@[expose] public section

noncomputable section

namespace Cert.KernelIdeal.Flash

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation)

variable {F : FTy → Type} [FloatOps F] [Named F]

local notation "𝕄" => MT nD τ sig Unit (Elt F) ℕ UU ℕ

variable (m : (ℓ : Loc nD τ sig) → Buf (Elt F) ℓ)

/-- What the kernel reads: the queries as the host lines leave them, the keys and the values as launched. -/
def xin : In F where
  q c := V m c main_v2
  k c := V m c main_arg1
  v c := V m c main_arg2

/-- The buffers the kernel addresses itself. -/
def own2 : Finset (DevRef τ sig) := {Proc.devRef .tc main_arg1, Proc.devRef .tc main_arg2}

theorem held_own2 (c : Dev nD) (W : Valuation τ sig (Elt F)) : (StableHlo.held (c : Thread nD τ) own2 W : sProp 𝕄)
    = iprop(((c : Thread nD τ).loc main_arg1 ↦{fullShare} W (Proc.devRef .tc main_arg1)) ∗ ((c : Thread nD τ).loc main_arg2 ↦{fullShare} W (Proc.devRef .tc main_arg2))) := by
  unfold StableHlo.held
  rw [bigSep_eq_bigSepL_of_eq [Proc.devRef .tc main_arg1, Proc.devRef .tc main_arg2] (by decide) (by decide)]
  rfl

/-- The kernel's own semaphores: of the local transfers, and of the schedule's cells past the program's barrier. -/
def ownSem : Fin 32 ⊕ (Fin 32 ⊕ Own) → SemLoc sig
  | .inl j => .dma (sem32 cc0_scratch7 j)
  | .inr (.inl j) => .dma (sem32 cc0_scratch8 j)
  | .inr (.inr k) => k.1.sem

theorem ownSem_facts : Pipeline.OwnSemFacts spec0 ownSem := by decide

theorem ownSems_eq (c : Dev nD) : (Pipeline.ownSems0 ownSem c : sProp 𝕄)
    = iprop((bigSep Finset.univ fun j => semVal ((c : Thread nD τ), SemLoc.dma (sem32 cc0_scratch7 j)) 0)
      ∗ (bigSep Finset.univ fun j => semVal ((c : Thread nD τ), SemLoc.dma (sem32 cc0_scratch8 j)) 0)
      ∗ bigSep (Finset.univ : Finset Own) fun k => semVal (cell c k.1) 0) := by
  unfold Pipeline.ownSems0
  rw [bigSep_univ_sum, bigSep_univ_sum]
  rfl

/-! ## Entering and leaving -/

/-- What the launch hands a device for the region: the records, its open barrier, the sealed cells, tokens and credit. -/
def Tk (c : Dev nD) : sProp 𝕄 :=
  iprop(∃ K, invs (xin m) K ∗ near c ∗ (pos c 0 .b0 ∗ reached (ER (F := F)) (cell c .b0) 0)
    ∗ (bigSep (Finset.univ : Finset Own) fun k => openTok (ER (F := F)) (cell c k.1)) ∗ toks c ∗ creds c)
/-- The same with every cell open, and the local transfers' counters. -/
def Xk (c : Dev nD) : sProp 𝕄 :=
  iprop((∃ K, ctx (xin m) K c ∗ near c ∗ (bigSep Finset.univ fun k => pos c 0 k) ∗ toks c ∗ creds c)
    ∗ (bigSep Finset.univ fun j => semVal ((c : Thread nD τ), SemLoc.dma (sem32 cc0_scratch7 j)) 0)
    ∗ (bigSep Finset.univ fun j => semVal ((c : Thread nD τ), SemLoc.dma (sem32 cc0_scratch8 j)) 0))
/-- And what it gives back: the barrier's counter. -/
def Yk (c : Dev nD) : sProp 𝕄 := semVal (cell c .b0) 0

theorem hopen (c : Dev nD) : iprop(Tk m c ∗ Pipeline.ownSems0 ownSem c ∗ levAts L lv) ⊢ (|={Set.univ}=> Xk m c : sProp 𝕄) := by
  rw [ownSems_eq]
  unfold Tk Xk
  iintro ⟨⟨%K, #HI, #Hn, Hb, Ho, Ht, Hc⟩, ⟨Hs7, Hs8, Hv⟩, #HL⟩
  imod (open_all (xin m) K c) $$ [Hb Ho Hv] with ⟨#Hctx, Hpos⟩
  · isplitr; · iexact HI
    isplitr; · iexact HL
    isplitl [Hb]; · iexact Hb
    isplitl [Ho]; · iexact Ho
    iexact Hv
  imodintro
  isplitr [Hs7 Hs8]
  · iexists K
    isplitr; · iexact Hctx
    isplitr; · iexact Hn
    isplitl [Hpos]; · iexact Hpos
    isplitl [Ht]; · iexact Ht
    iexact Hc
  isplitl [Hs7]; · iexact Hs7
  iexact Hs8

/-- The state around the body: before, -/
def Φ0 (c : Dev nD) : sProp 𝕄 :=
  iprop(Pipeline.scopedRest spec0 c ∗ (∃ r, prngReg c r) ∗ StableHlo.held (c : Thread nD τ) own2 (V0 m c) ∗ Xk m c)
/-- and after. -/
def ΦN (c : Dev nD) : sProp 𝕄 :=
  iprop(Pipeline.scopedRest spec0 c ∗ (∃ r, prngReg c r) ∗ StableHlo.held (c : Thread nD τ) own2 (V0 m c) ∗ Pipeline.ownSems0 ownSem c ∗ Yk c)

/-- The region's data: the queries in, the attention of all the keys out. -/
def dat (c : Dev nD) : Dat τ (Elt F) Unit ℕ UU ℕ cfg0 c where
  A w := V m c (Pipeline.arrRef spec0 w)
  after w t := match w with
    | ⟨0, _⟩ => (xin m).q c
    | ⟨1, _⟩ => (st (xin m) 4 c).o
  Φ t := if t.val = 0 then Φ0 m c else ΦN m c
  q _ := fullShare
  owed t := if t.val = 0 then owe c toksA else 0

abbrev adm : (p : Fin 1) → (pcfgs (F := F) p).Adm := fun p => (cfgs p).toPCfg_adm
def pdats (p : Fin 1) (c : Dev nD) : Dat τ (Elt F) Unit ℕ UU ℕ (Pipeline.pin (pcfgs (F := F)) adm p) c := dat m c

theorem Φ_first (c : Dev nD) : (dat m c).Φ t0_0.castSucc = Φ0 m c := rfl
theorem Φ_last (c : Dev nD) : (dat m c).Φ t0_0.succ = ΦN m c := rfl
theorem owed_first (c : Dev nD) : (dat m c).owed t0_0.castSucc = owe c toksA := rfl
theorem owed_last (c : Dev nD) : (dat m c).owed t0_0.succ = 0 := rfl

/-! ## The windows' blocks -/

theorem idx0 : ∀ t : Fin cfg0.N, win0_0.index t = ![0, 0, 0] ∧ win0_1.index t = ![0, 0, 0] := (by decide +kernel : ∀ t : Fin grid0.N, _)

theorem iblk_q (c : Dev nD) : iblk m c 0 t0_0 = (xin m).q c := by
  show iblk m c 0 t0_0 = V m c main_v2
  blk_ext! [iblk, idx0 t0_0]

theorem before_q (c : Dev nD) (d) : (dat m c).before 0 t0_0 d = (xin m).q c := by
  refine Eq.trans ?_ (iblk_q m c)
  unfold Dat.before
  rw [if_pos (fetch0_0 _)]
  rfl

theorem final_o (c : Dev nD) : (dat m c).arrAt 1 cfg0.N = (st (xin m) 4 c).o := by
  refine (dat m c).arrAt_eq_of_after_last 1 t0_0 (by decide +kernel) _ fun j => ?_
  blk_simp
  rfl

/-! ## The body at its point -/

/-- The scratch buffers, by their names in the body. -/
def scratch (c : Dev nD) : sProp 𝕄 :=
  iprop((∃ X, hold c khM X) ∗ (∃ X, hold c vhM X) ∗ (∃ X, hold c oM X) ∗ (∃ X, hold c lM X) ∗ (∃ X, hold c sM X)
    ∗ (∃ X, hold c orM X) ∗ ∃ X, hold c lrM X)
theorem scratch_eq (c : Dev nD) : (Pipeline.scopedRest spec0 c : sProp 𝕄) = scratch c := by
  rw [scopedRest0_eq]
  unfold scratch
  simp only [hold, owns_whole]
  rfl

theorem keys_eq (c : Dev nD) : (StableHlo.held (c : Thread nD τ) own2 (V0 m c) : sProp 𝕄)
    = iprop(src c kM ((xin m).k c) ∗ src c vM ((xin m).v c)) := by
  rw [held_own2]
  unfold src
  rw [show kM.view.set = Finset.univ from View.set_whole _, show vM.view.set = Finset.univ from View.set_whole _]
  rfl

/-- Every row's transfers, from the buffers and the counters, -/
theorem idle_intro (c : Dev nD) :
    iprop((src c kM ((xin m).k c) ∗ src c vM ((xin m).v c)) ∗ ((∃ X, hold c khM X) ∗ ∃ X, hold c vhM X)
      ∗ (bigSep Finset.univ fun j => semVal ((c : Thread nD τ), SemLoc.dma (sem32 cc0_scratch7 j)) 0)
      ∗ bigSep Finset.univ fun j => semVal ((c : Thread nD τ), SemLoc.dma (sem32 cc0_scratch8 j)) 0)
    ⊢ (iprop(bigSep Finset.univ (idle (xin m) c) ∗ others c kM ((xin m).k c) ∗ others c vM ((xin m).v c)) : sProp 𝕄) := by
  have h1 := rows_cut (F := F) (c := c) khM
  have h2 := rows_cut (F := F) (c := c) vhM
  rw [blks_eq, blks_eq]
  unfold idle
  rw [bigSep_sep', bigSep_sep', bigSep_sep', bigSep_sep', bigSep_sep']
  iintro ⟨⟨⟨Hk, Hok⟩, Hv, Hov⟩, ⟨Hkh, Hvh⟩, H7, H8⟩
  isplitr [Hok Hov]
  · isplitl [Hk Hkh H7]
    · isplitl [Hk]; · iexact Hk
      isplitl [Hkh]; · iapply h1; iexact Hkh
      iexact H7
    isplitl [Hv]; · iexact Hv
    isplitl [Hvh]; · iapply h2; iexact Hvh
    iexact H8
  isplitl [Hok]; · iexact Hok
  iexact Hov

/-- and back. -/
theorem done_elim (c : Dev nD) :
    iprop(bigSep Finset.univ (done (xin m) c) ∗ others c kM ((xin m).k c) ∗ others c vM ((xin m).v c))
    ⊢ (iprop((src c kM ((xin m).k c) ∗ src c vM ((xin m).v c)) ∗ ((∃ X, hold c khM X) ∗ ∃ X, hold c vhM X)
      ∗ (bigSep Finset.univ fun j => semVal ((c : Thread nD τ), SemLoc.dma (sem32 cc0_scratch7 j)) 0)
      ∗ bigSep Finset.univ fun j => semVal ((c : Thread nD τ), SemLoc.dma (sem32 cc0_scratch8 j)) 0) : sProp 𝕄) := by
  have some (M : Memref sig .tc .vmem S32x512x128 .f32) (X : Fin 32 → Vec F S512x128 .f32) :
      (bigSep Finset.univ fun j => hold (F := F) c (kvRow M j) (X j)) ⊢ (bigSep Finset.univ fun j => iprop(∃ X, hold (F := F) c (kvRow M j) X) : sProp 𝕄) :=
    bigSep_mono fun j _ => (show hold c (kvRow M j) (X j) ⊢ (iprop(∃ X, hold c (kvRow M j) X) : sProp 𝕄) from by iintro H; iexists _; iexact H)
  have h1 := (some khM (kblk (xin m) c)).trans (rows_join (F := F) (c := c) khM)
  have h2 := (some vhM (vblk (xin m) c)).trans (rows_join (F := F) (c := c) vhM)
  rw [blks_eq, blks_eq]
  unfold done
  rw [bigSep_sep', bigSep_sep', bigSep_sep', bigSep_sep', bigSep_sep']
  iintro ⟨⟨⟨Hk, Hkh, H7⟩, Hv, Hvh, H8⟩, Hok, Hov⟩
  isplitl [Hk Hok Hv Hov]
  · isplitl [Hk Hok]
    · isplitl [Hk]; · iexact Hk
      iexact Hok
    isplitl [Hv]; · iexact Hv
    iexact Hov
  isplitl [Hkh Hvh]
  · isplitl [Hkh]; · iapply h1; iexact Hkh
    iapply h2; iexact Hvh
  isplitl [H7]; · iexact H7
  iexact H8

/-- The body, between the region's states. -/
theorem run_point (qM uM : Memref sig .tc .vmem S32x32x128 .f32) (c : Dev nD) (Q : Post F) :
    iprop(Φ0 m c ∗ ow c toksA ∗ hold c qM ((xin m).q c) ∗ ∃ X, hold c uM X)
      ⊢ iprop(((ΦN m c ∗ ow c [] ∗ hold c qM ((xin m).q c) ∗ hold c uM (st (xin m) 4 c).o) -∗ Q ⟨⟩)
          -∗ run c (.op .deviceId fun d0 => bodyAt qM uM d0) Q) := by
  have hup (p : Body F) : run c p (fun a => iprop(|={Set.univ}=> Q a)) ⊢ run c p Q := by unfold run; exact wp_fupd _ _ _ _ _
  have hin := idle_intro m c
  have hout := done_elim m c
  have hsl := slots_cut (F := F) c
  have hsj := slots_join (F := F) c
  have hg := gather (F := F) c
  have hu := ungather (F := F) c
  have e : Φ0 m c = iprop(scratch c ∗ (∃ r, prngReg c r) ∗ (src c kM ((xin m).k c) ∗ src c vM ((xin m).v c)) ∗ Xk m c) := by
    unfold Φ0; rw [scratch_eq, keys_eq]
  have e' : ΦN m c = iprop(scratch c ∗ (∃ r, prngReg c r) ∗ (src c kM ((xin m).k c) ∗ src c vM ((xin m).v c))
      ∗ ((bigSep Finset.univ fun j => semVal ((c : Thread nD τ), SemLoc.dma (sem32 cc0_scratch7 j)) 0)
        ∗ (bigSep Finset.univ fun j => semVal ((c : Thread nD τ), SemLoc.dma (sem32 cc0_scratch8 j)) 0)
        ∗ bigSep (Finset.univ : Finset Own) fun k => semVal (cell c k.1) 0) ∗ semVal (cell c .b0) 0) := by
    unfold ΦN Yk; rw [scratch_eq, keys_eq, ownSems_eq]
  rw [e, e']
  unfold scratch Xk
  iintro ⟨⟨⟨Hkh, Hvh, HoM, HlM, HsM, Hor, Hlr⟩, Hp, Hkv, ⟨%K, #Hctx, #Hn, Hpos, Ht, Hc⟩, H7, H8⟩, Ho, Hq, Hu⟩ Hk
  ihave Hi := hin $$ [Hkv Hkh Hvh H7 H8]
  · isplitl [Hkv]; · iexact Hkv
    isplitl [Hkh Hvh]
    · isplitl [Hkh]; · iexact Hkh
      iexact Hvh
    isplitl [H7]; · iexact H7
    iexact H8
  icases Hi with ⟨Hidle, Hoth⟩
  ihave Hs := hsl $$ [Hor Hlr]
  · isplitl [Hor]; · iexact Hor
    iexact Hlr
  ihave Hg := hg $$ [Hpos Ht Hc]
  · isplitl [Hpos]; · iexact Hpos
    isplitl [Ht]; · iexact Ht
    iexact Hc
  iapply (hup _)
  iapply (run_body (xin m) K qM uM) $$ [Ho Hq Hu Hidle HoM HlM HsM Hs Hg]
  · isplitr; · iexact Hctx
    isplitl [Ho]; · iexact Ho
    unfold bodyIn
    isplitl [Hq Hu]
    · isplitl [Hq]; · iexact Hq
      iexact Hu
    isplitl [Hidle]; · iexact Hidle
    isplitl [HoM HlM HsM]
    · isplitl [HoM]; · iexact HoM
      isplitl [HlM]; · iexact HlM
      iexact HsM
    isplitl [Hs]; · iexact Hs
    isplitr; · iexact Hn
    iexact Hg
  unfold bodyOut
  iintro ⟨Ho, ⟨Hq, Hu⟩, Hdone, ⟨HoM, HlM, HsM⟩, Hend⟩
  ihave Hkv := hout $$ [Hdone Hoth]
  · isplitl [Hdone]; · iexact Hdone
    iexact Hoth
  icases Hkv with ⟨Hkv, ⟨Hkh, Hvh⟩, H7, H8⟩
  ihave He := hu $$ Hend
  icases He with ⟨Hpos, Hs⟩
  ihave Hs' := hsj $$ Hs
  icases Hs' with ⟨Hor, Hlr⟩
  ihave HI := (show ctx (xin m) K c ⊢ invs (xin m) K from by rw [ctx_invs]; iintro ⟨H, -, -⟩; iexact H) $$ Hctx
  imod (close_all (xin m) K c) $$ [HI Hpos] with Hv
  · isplitl [HI]; · iexact HI
    iexact Hpos
  ihave Hv' := (Entails.of_eq (own_eq (F := F) fun k => semVal (cell c k) 0)) $$ Hv
  icases Hv' with ⟨Hb, Hv⟩
  imodintro
  iapply Hk
  isplitr [Ho Hq Hu]
  · isplitl [Hkh Hvh HoM HlM HsM Hor Hlr]
    · isplitl [Hkh]; · iexact Hkh
      isplitl [Hvh]; · iexact Hvh
      isplitl [HoM]; · iexact HoM
      isplitl [HlM]; · iexact HlM
      isplitl [HsM]; · iexact HsM
      isplitl [Hor]; · iexact Hor
      iexact Hlr
    isplitl [Hp]; · iexact Hp
    isplitl [Hkv]; · iexact Hkv
    isplitr [Hb]
    · isplitl [H7]; · iexact H7
      isplitl [H8]; · iexact H8
      iexact Hv
    iexact Hb
  isplitl [Ho]; · iexact Ho
  isplitl [Hq]; · iexact Hq
  iexact Hu

theorem owed_in (c : Dev nD) : ((dat m c).owesAt () t0_0.castSucc : sProp 𝕄) ⊢ ow c toksA := by
  unfold Dat.owesAt Pipeline.owesWithin ow
  rw [owed_first]
  iintro ⟨%W, -, H⟩
  iexists W; iexact H
theorem owed_out (c : Dev nD) : (ow c [] : sProp 𝕄) ⊢ (dat m c).owesAt () t0_0.succ := by
  unfold Dat.owesAt Pipeline.owesWithin ow
  rw [owed_last, show owe c [] = 0 from rfl]
  iintro ⟨%W, H⟩
  iexists W
  isplitr; · ipureintro; exact fun _ _ => Or.inl trivial
  iexact H

theorem body (c : Dev nD) : BodyObligation (dat m c) defs₀ 𝒱₀ () Set.univ := fun t => by
  obtain rfl := fin_N0 t
  rw [bigSep_W0, bigSep_W0, Φ_first, Φ_last]
  have hi := owed_in m c
  have ho := owed_out m c
  have hb : defs₀ (F := F) .tc cfg0.body (cfg0.bodyArgs t0_0 (cfg0.slots t0_0)) = .op .deviceId fun d0 => bodyAt (st0_0 t0_0) (st0_1 t0_0) d0 :=
    body_eq _ _ _ _ _
  rw [hb]
  iintro ⟨HΦ, HO, ⟨%d, Hq⟩, ⟨%d', Hu⟩⟩
  iapply (run_point m (st0_0 t0_0) (st0_1 t0_0) c _) $$ [HΦ HO Hq Hu]
  · isplitl [HΦ]; · iexact HΦ
    isplitl [HO]; · iapply hi; iexact HO
    isplitl [Hq]; · rw [before_q]; iexact Hq
    iexists _; iexact Hu
  iintro ⟨HΦ, HO, Hq, Hu⟩
  isplitl [HΦ]; · iexact HΦ
  isplitl [HO]; · iapply ho; iexact HO
  isplitl [Hq]; · iexact Hq
  iexact Hu

/-! ## The region -/

/-- The buffers after the region. -/
def W' (c : Dev nD) : Valuation τ sig (Elt F) := Pipeline.afterRegion (dat m c) (V0 m c)

/-- The unscoped buffers that are no window's array. -/
def restRefs : Finset (DevRef τ sig) := Pipeline.ucRefs τ sig \ Pipeline.arrRefs (τ := τ) spec0

theorem own2_sub : own2 ⊆ restRefs := by unfold own2 restRefs; decide

theorem W'_rest (c : Dev nD) (b : DevRef τ sig) (hb : b ∈ restRefs) : W' m c b = V0 m c b :=
  Pipeline.afterRegion_off (dat m c) (V0 m c) (Pipeline.ucRefs τ sig) b hb

theorem W'_held (c : Dev nD) : (StableHlo.held (c : Thread nD τ) own2 (W' m c) : sProp 𝕄) = StableHlo.held (c : Thread nD τ) own2 (V0 m c) :=
  StableHlo.held_congr _ fun b hb => W'_rest m c b (own2_sub hb)

theorem W'_arr (c : Dev nD) (w : Fin cfg0.W) : W' m c (Proc.devRef .tc (Pipeline.arrRef spec0 w)) = (dat m c).arrAt w cfg0.N :=
  Pipeline.afterRegion_arr (dat m c) (V0 m c) (by decide) w

theorem toks_level : ∀ u ∈ toksA, 0 < lvl u.1 := by decide

theorem owed_cut (c : Dev nD) (t : Fin (cfg0.N + 1)) (g : GSem nD τ sig) (i : Unit) (h : 0 < (dat m c).owed t g i) : i ∈ L g ∧ 0 < lv g i := by
  have e : (dat m c).owed t = if t.val = 0 then owe c toksA else 0 := rfl
  rw [e] at h
  split at h
  · obtain ⟨u, hu, rfl⟩ := owe_pos c toksA g i h
    refine ⟨by rw [L_tc]; exact Finset.mem_singleton_self _, ?_⟩
    have hl : lv (cell (par (rnd u.1 u.2) c) u.1) i = lvl u.1 := by unfold lv; rw [kind_sem]; rfl
    rw [hl]
    exact toks_level u hu
  · exact absurd h (Nat.lt_irrefl 0)

theorem staging_level : ∀ (c : Dev nD) (w : Fin 2) (s : Fin (win0 w).nbuf), kind (.dma ((win0 w).sem s)) = none := by decide

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 ownSem ownSem_facts
    own2 restRefs own2_sub launch0.toP rfl (fun c => (body m c).loose)
    (fun _ => 0) (fun c => owe c toksA) (fun c => (zero_add _).symm) (fun c => owed_last m c) (fun _ => rfl) (fun _ _ => ite_self _)
    (V0 m) (W' m) (fun c b hb => W'_rest m c b (Finset.mem_sdiff.mp hb).1)
    (Tk m) Yk (Xk m) Yk (hopen m) (fun c => .rfl)
    (fun c => by
      show ΦN m c ⊢ _
      rw [W'_held]
      exact .rfl)
    (fun c => by iintro H; imodintro; iexact H)
    (fun _ => 0)
    ⟨fun c w s => by rw [L_tc]; exact Finset.mem_singleton_self _,
      fun c w s => le_of_eq (by
        show (kind (.dma ((win0 w).sem s))).elim 0 lvl = 0
        rw [staging_level c w s]; rfl),
      fun c t g i h => owed_cut m c t g i h⟩
    (fun _ => iprop(emp))
    (fun c w => rfl) (fun c w => (W'_arr m c w).symm)

end Cert.KernelIdeal.Flash

end

end
-- ==== Proof.Launch.lean ====
/- The whole program's run: the launch's dealing of records, tokens and credit, the host lines around the kernel, and what the memory ends with. -/
module

public import proofs.«01_k».proof.Proof.Region
public import Idealize.ShloMosaic.Lib.Quiescent

@[expose] public section

noncomputable section

namespace Cert.KernelIdeal.Flash

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The segments -/

/-- The buffers the program keeps. -/
abbrev bufs : Finset (DevRef τ sig) := Pipeline.ucRefs τ sig

/-- What the first host lines leave alone: the kernel's part of the launch, the register, and what is owed. -/
def R (c : Dev nD) : sProp 𝕄 := iprop((Tk m c ∗ ∃ r, prngReg c r) ∗ ow c toksA)
/-- What the last ones leave alone. -/
def R' (c : Dev nD) : sProp 𝕄 := iprop(semVal (cell c .b0) 0 ∗ ow c [])

local notation "ℍ" => Pipeline.HostSeg (Name := ℕ) (U := UU) (pcfgs (F := F)) defs₀ 𝒱₀ L lv

theorem ops0_sub : ∀ op ∈ (hostOps0 : List (HloOp τ sig (Elt F))), op.bufs ⊆ bufs := fun op h =>
  Pipeline.sub_ucRefs op ((List.forall_iff_forall_mem.mp hostOps0_sub) op h)
theorem ops1_sub : ∀ op ∈ (hostOps1 : List (HloOp τ sig (Elt F))), op.bufs ⊆ bufs := fun op h =>
  Pipeline.sub_ucRefs op ((List.forall_iff_forall_mem.mp hostOps1_sub) op h)

def seg0 : ℍ := Pipeline.HostSeg.ofOps _ _ _ _ _ bufs hostOps0 ops0_sub (List.forall_iff_forall_mem.mp hostOps0_fresh) (fun c b => m (c, b)) (R m)
def seg1 : ℍ := Pipeline.HostSeg.ofOps _ _ _ _ _ bufs hostOps1 ops1_sub (List.forall_iff_forall_mem.mp hostOps1_fresh) (W' m) R'

theorem arr_sub : Pipeline.arrRefs (τ := τ) spec0 ⊆ bufs := Pipeline.arrRefs_sub_ucRefs spec0 (by decide)

theorem held_bufs (c : Dev nD) (W : Valuation τ sig (Elt F)) : (StableHlo.held (c : Thread nD τ) bufs W : sProp 𝕄)
    = iprop(StableHlo.held (c : Thread nD τ) (Pipeline.arrRefs (τ := τ) spec0) W ∗ StableHlo.held (c : Thread nD τ) restRefs W) :=
  StableHlo.held_sub_split (c : Thread nD τ) arr_sub W

theorem region_pre (c : Dev nD) : iprop(StableHlo.held (c : Thread nD τ) bufs (V0 m c) ∗ R m c) ⊢ (region m).pre c := by
  show _ ⊢ iprop(StableHlo.held (c : Thread nD τ) (Pipeline.arrRefs (τ := τ) spec0) (V0 m c) ∗ (∃ r, prngReg c r)
    ∗ (StableHlo.held (c : Thread nD τ) restRefs (V0 m c) ∗ emp) ∗ Tk m c ∗ ∃ Wd, owes (c : Thread nD τ) (0 + owe c toksA) Wd)
  rw [held_bufs, zero_add]
  unfold R ow
  iintro ⟨⟨Ha, Hr⟩, ⟨HT, Hp⟩, HO⟩
  isplitl [Ha]; · iexact Ha
  isplitl [Hp]; · iexact Hp
  isplitl [Hr]
  · isplitl [Hr]; · iexact Hr
    iempintro
  isplitl [HT]; · iexact HT
  iexact HO

theorem region_post (c : Dev nD) : (region m).post c ⊢ iprop(StableHlo.held (c : Thread nD τ) bufs (W' m c) ∗ R' c) := by
  show iprop(StableHlo.held (c : Thread nD τ) (Pipeline.arrRefs (τ := τ) spec0) (W' m c) ∗ (∃ r, prngReg c r)
    ∗ (StableHlo.held (c : Thread nD τ) restRefs (W' m c) ∗ emp) ∗ Yk c ∗ ∃ Wd, owes (c : Thread nD τ) 0 Wd) ⊢ _
  rw [held_bufs]
  unfold R' Yk ow
  iintro ⟨Ha, -, ⟨Hr, -⟩, Hb, HO⟩
  isplitl [Ha Hr]
  · isplitl [Ha]; · iexact Ha
    iexact Hr
  isplitl [Hb]; · iexact Hb
  iexact HO

def segs : List (Pipeline.Seg (pcfgs (F := F)) adm (pdats m) () defs₀ 𝒱₀ L lv) := [.host (seg0 m), .region (region m), .host (seg1 m)]

/-! ## Cells and tokens at launch -/

theorem cell_inj {c d : Dev nD} {k l : Cell} (h : (cell c k : GSem nD τ sig) = cell d l) : c = d ∧ k = l :=
  ⟨congrArg (fun g : GSem nD τ sig => g.1.1) h, sem_inj (congrArg Prod.snd h)⟩

def barEmb : Dev nD ↪ GSem nD τ sig := ⟨fun c => cell c .b0, fun _ _ h => (cell_inj h).1⟩
def ownEmb : Dev nD × Own ↪ GSem nD τ sig :=
  ⟨fun ck => cell ck.1 ck.2.1, fun _ _ h => Prod.ext (cell_inj h).1 (Subtype.ext (cell_inj h).2)⟩
def allEmb : Dev nD × Cell ↪ GSem nD τ sig := ⟨fun ck => cell ck.1 ck.2, fun _ _ h => Prod.ext (cell_inj h).1 (cell_inj h).2⟩

/-- The barrier cells, open from the launch; and the others, sealed until the kernel's entry. -/
abbrev barCells : Finset (GSem nD τ sig) := Finset.univ.map barEmb
abbrev ownCells : Finset (GSem nD τ sig) := Finset.univ.map ownEmb

theorem disjoint_cells : Disjoint barCells ownCells := by
  rw [Finset.disjoint_left]
  rintro g h₁ h₂
  obtain ⟨c, -, rfl⟩ := Finset.mem_map.mp h₁
  obtain ⟨ck, -, h⟩ := Finset.mem_map.mp h₂
  exact ck.2.2 (cell_inj h).2

theorem all_sub : Finset.univ.map allEmb ⊆ barCells ∪ ownCells := by
  intro g hg
  obtain ⟨⟨c, k⟩, -, rfl⟩ := Finset.mem_map.mp hg
  by_cases h : k = .b0
  · subst h; exact Finset.mem_union_left _ (Finset.mem_map_of_mem barEmb (Finset.mem_univ c))
  · exact Finset.mem_union_right _ (Finset.mem_map_of_mem ownEmb (Finset.mem_univ (c, (⟨k, h⟩ : Own))))

/-- A device's duties: sent from it, landed at it, and signalled to its two barriers. -/
def duty : (Fin 9 ⊕ Fin 9) ⊕ (Fin 4 ⊕ Fin 4) → Tok
  | .inl (.inl i) => (sndC i, 0)
  | .inl (.inr i) => (rcvC i, 0)
  | .inr (.inl t) => (.b0, t)
  | .inr (.inr t) => (.b1, t)
theorem duty_inj : Function.Injective duty := by decide

def tokEmb : Dev nD × ((Fin 9 ⊕ Fin 9) ⊕ (Fin 4 ⊕ Fin 4)) ↪ GSem nD τ sig × ℕ × Fin 4 :=
  ⟨fun ck => (cell ck.1 (duty ck.2).1, 0, (duty ck.2).2), fun _ _ h =>
    Prod.ext (cell_inj (congrArg Prod.fst h)).1
      (duty_inj (Prod.ext (cell_inj (congrArg Prod.fst h)).2 (congrArg (fun t : GSem nD τ sig × ℕ × Fin 4 => t.2.2) h)))⟩
abbrev dutyToks : Finset (GSem nD τ sig × ℕ × Fin 4) := Finset.univ.map tokEmb

/-- The tokens, each at the device that performs the duty. -/
theorem toks_dealt : bigSep dutyToks (fun t => (dutyTok (ER (F := F)) t.1 t.2.1 t.2.2 : sProp 𝕄)) ⊢ bigSep Finset.univ fun c : Dev nD => toks c := by
  have hd (t : Tok) : (bigSep Finset.univ fun c : Dev nD => (dutyTok (ER (F := F)) (cell c t.1) 0 t.2 : sProp 𝕄)) = bigSep Finset.univ fun c : Dev nD => tk c t := by
    rw [bigSep_univ_equiv (parE (rnd t.1 t.2))]
    rfl
  have hr {n : ℕ} (f : Fin n → Tok) : (bigSep Finset.univ fun c : Dev nD => bigSep Finset.univ fun i => (dutyTok (ER (F := F)) (cell c (f i).1) 0 (f i).2 : sProp 𝕄))
      ⊢ bigSep Finset.univ fun c : Dev nD => bigSep Finset.univ fun i => tk c (f i) := by
    rw [bigSep_univ_comm, bigSep_univ_comm (fun (c : Dev nD) i => tk c (f i)), bigSep_congr fun i _ => hd (f i)]
  have hs (c : Dev nD) : (bigSep Finset.univ fun i => (dutyTok (ER (F := F)) (cell c (duty i).1) 0 (duty i).2 : sProp 𝕄))
      = iprop(((bigSep Finset.univ fun i => tkS c (sndC i)) ∗ (bigSep Finset.univ fun i => dutyTok (ER (F := F)) (cell c (rcvC i)) 0 0))
        ∗ (bigSep Finset.univ fun t : Fin 4 => dutyTok (ER (F := F)) (cell c .b0) 0 t) ∗ (bigSep Finset.univ fun t : Fin 4 => dutyTok (ER (F := F)) (cell c .b1) 0 t)) := by
    rw [bigSep_univ_sum, bigSep_univ_sum, bigSep_univ_sum]
    rfl
  rw [bigSep_map, bigSep_univ_prod]
  refine (Entails.of_eq (bigSep_congr fun c _ => hs c)).trans ?_
  unfold toks
  simp only [bigSep_sep']
  have h1 := hr fun i => (rcvC i, 0)
  have h2 := hr fun t : Fin 4 => (Cell.b0, t)
  have h3 := hr fun t : Fin 4 => (Cell.b1, t)
  iintro ⟨⟨H1, H2⟩, H3, H4⟩
  isplitl [H1]; · iexact H1
  isplitl [H2]; · iapply h1; iexact H2
  isplitl [H3]; · iapply h2; iexact H3
  iapply h3; iexact H4

/-! ## The credit at launch -/

/-- The amount a list of duties brings to cells of a kind. -/
def due (k : Cell) : List Tok → ℕ
  | [] => 0
  | t :: ts => due k ts + if t.1 = k then amt k else 0

theorem owe_sum (c : Dev nD) (k : Cell) (ts : List Tok) : ∑ d : Dev nD, owe d ts (cell c k) () = due k ts := by
  induction ts with
  | nil => exact Finset.sum_const_zero
  | cons t ts ih =>
    have h (d : Dev nD) : owe d (t :: ts) (cell c k) () = owe d ts (cell c k) () + if d = par (rnd t.1 t.2) c then (if t.1 = k then amt k else 0) else 0 := by
      show owe d ts (cell c k) () + tallyAt (cell (par (rnd t.1 t.2) d) t.1) () (amt t.1) (cell c k) () = _
      congr 1
      rw [tallyAt_apply]
      by_cases hk : t.1 = k
      · by_cases hd : d = par (rnd t.1 t.2) c
        · rw [if_pos ⟨by rw [hd, par_par, hk], rfl⟩, if_pos hd, if_pos hk, hk]
        · rw [if_neg (fun h => hd (by rw [(cell_inj h.1).1, par_par])), if_neg hd]
      · rw [if_neg (fun h => hk (cell_inj h.1).2.symm), if_neg hk, ite_self]
    rw [Finset.sum_congr rfl fun d _ => h d, Finset.sum_add_distrib, ih, Finset.sum_ite_eq' Finset.univ _ fun _ => if t.1 = k then amt k else 0,
      if_pos (Finset.mem_univ _)]
    rfl

theorem crd_elim (c : Dev nD) (k : Cell) (h : due k toksA = (dts k).card * amt k) :
    (cred (tallyOn (cell c k) (launchCredit (Pipeline.owing fun d : Dev nD => owe d toksA) 0 (cell c k))) : sProp 𝕄) = crd c k := by
  unfold crd
  congr 1
  unfold tallyAt
  refine congrArg _ (Finsupp.ext fun u => ?_)
  cases u
  rw [Pipeline.launchCredit_owing, Finsupp.single_eq_same, owe_sum, h]

theorem due_rcv (i : Fin 9) : due (rcvC i) toksA = (dts (rcvC i)).card * amt (rcvC i) := by
  fin_cases i <;> simp [due, toksA, toksB, toks0, toks1, toks2, toks3, toks4, rcvC, dts]
theorem due_b0 : due .b0 toksA = (dts .b0).card * amt .b0 := by
  simp [due, toksA, toksB, toks0, toks1, toks2, toks3, toks4, dts, amt]
theorem due_b1 : due .b1 toksA = (dts .b1).card * amt .b1 := by
  simp [due, toksA, toksB, toks0, toks1, toks2, toks3, toks4, dts, amt]

def semEmb : Cell ↪ SemLoc sig := ⟨Cell.sem, fun _ _ h => sem_inj h⟩

theorem creds_dealt (c : Dev nD) : (Pipeline.launchCred (fun d : Dev nD => owe d toksA) c : sProp 𝕄) ⊢ creds c := by
  unfold Pipeline.launchCred creds
  refine (bigSep_subset (Finset.subset_univ (Finset.univ.map semEmb))).trans ?_
  rw [bigSep_map, cells_eq, ← crd_elim c .b0 due_b0, ← crd_elim c .b1 due_b1, bigSep_congr fun i _ => (crd_elim (F := F) c (rcvC i) (due_rcv i)).symm]
  exact (sep_elim_right (PROP := sProp 𝕄))

/-! ## The start -/

/-- The launch's element, held by device 0 until it is dealt. -/
def parked : sProp 𝕄 := BI.own (ER (F := F) (launchOf barCells ownCells dutyToks))
def G (c : Dev nD) : sProp 𝕄 := if c = 0 then parked else iprop(emp)
theorem G_all : bigSep Finset.univ (G (F := F)) = parked := by
  rw [bigSep_univ_at _ (0 : Dev nD), bigSep_congr (s := Finset.univ.erase 0) (Ψ := fun _ => (BI.emp : sProp 𝕄))
    fun c hc => by unfold G; rw [if_neg (Finset.ne_of_mem_erase hc)]; rfl, BI.bigSep_emp_const]
  unfold G
  rw [if_pos rfl]
  exact BI.equiv_iff.mp sep_emp

def u₀ : UU := (initOf (Pipeline.cells (Pipeline.pin (pcfgs (F := F)) adm) cellOf_inj) (Pipeline.launchToks (Pipeline.pin (pcfgs (F := F)) adm) cellOf_inj),
  (launchOf barCells ownCells dutyToks, (1 : Counters)))

/-- What every device may read: the records of all cells, and every first barrier at round 0. -/
def known (κ : GSem nD τ sig → ℕ) : sProp 𝕄 :=
  iprop(invs (xin m) κ ∗ bigSep Finset.univ fun c : Dev nD => reached (ER (F := F)) (cell c .b0) 0)
instance known_persistent (κ : GSem nD τ sig → ℕ) : BI.Persistent (known m κ) := by unfold known; infer_instance

/-- What a device alone starts with. -/
def mine (c : Dev nD) : sProp 𝕄 :=
  iprop(StableHlo.held (c : Thread nD τ) bufs (fun b => m (c, b)) ∗ owes (c : Thread nD τ) (owe c toksA) ∅ ∗ creds c ∗ prngReg c (ρ c))
/-- And what the dealing gives it. -/
def dealt (c : Dev nD) : sProp 𝕄 :=
  iprop(pos c 0 .b0 ∗ (bigSep (Finset.univ : Finset Own) fun k => openTok (ER (F := F)) (cell c k.1)) ∗ toks c)

abbrev T₀ (c : Dev nD) : sProp 𝕄 := iprop(StableHlo.held (c : Thread nD τ) bufs (fun b => m (c, b)) ∗ R m c)
abbrev Tₙ (c : Dev nD) : sProp 𝕄 := iprop(StableHlo.held (c : Thread nD τ) bufs (StableHlo.after hostOps1 (W' m c)) ∗ semVal (cell c .b0) 0)

theorem known_at (κ : GSem nD τ sig → ℕ) (c : Dev nD) : known m κ ⊢ reached (ER (F := F)) (cell c .b0) 0 := by
  have h : (bigSep Finset.univ fun c : Dev nD => (reached (ER (F := F)) (cell c .b0) 0 : sProp 𝕄)) ⊢ reached (ER (F := F)) (cell c .b0) 0 :=
    bigSep_elim (Finset.mem_univ c)
  unfold known
  iintro ⟨-, H⟩
  iapply h
  iexact H

theorem start_all (κ : GSem nD τ sig → ℕ) (c : Dev nD) : iprop(known m κ ∗ (dealt c ∗ mine m ρ c)) ⊢ T₀ m c := by
  have hn (p : Dev nD) := known_at m κ p
  have hi : known m κ ⊢ invs (xin m) κ := by
    unfold known
    iintro ⟨H, -⟩
    iexact H
  unfold dealt mine T₀ R Tk near ow
  iintro ⟨#HK, ⟨Hp, Ho, Ht⟩, Hh, HO, Hc, Hr⟩
  isplitl [Hh]; · iexact Hh
  isplitr [HO]
  · isplitr [Hr]
    · iexists κ
      isplitr; · iapply hi; iexact HK
      isplitr
      · isplitr; · iapply hn; iexact HK
        isplitr; · iapply hn; iexact HK
        isplitr; · iapply hn; iexact HK
        iapply hn; iexact HK
      isplitl [Hp]
      · isplitl [Hp]; · iexact Hp
        iapply hn; iexact HK
      isplitl [Ho]; · iexact Ho
      isplitl [Ht]; · iexact Ht
      iexact Hc
    iexists (ρ c); iexact Hr
  iexists ∅; iexact HO

theorem sems_eq (c : Dev nD) : (unscopedSems0 c : sProp 𝕄) = semVal (cell c .b0) 0 := by
  unfold unscopedSems0
  rw [show (Finset.univ.filter fun sm : SemLoc sig => ¬ sm.isScoped .tc) = {Cell.b0.sem} from by decide, BI.bigSep_singleton]

theorem unscoped_eq : ∀ sm : SemLoc sig, sm.isScoped .tc = false → sm = Cell.b0.sem := by decide

theorem init :
    iprop((bigSep Finset.univ fun c : Dev nD => iprop(unscopedBufs c (fun b => m ((c : Thread nD τ).loc b)) ∗ unscopedSems0 c
          ∗ owes (c : Thread nD τ) (owe c toksA) ∅ ∗ Pipeline.launchCred (fun d : Dev nD => owe d toksA) c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (owe c toksA) ∅ ∗ Pipeline.launchCred (fun d : Dev nD => owe d toksA) c ∗ prngReg c (ρ c) ∗ G c)
      ⊢ (iprop(mine m ρ c ∗ (semVal (cell c .b0) 0 ∗ G c)) : sProp 𝕄) := by
    have hcr := creds_dealt (F := F) c
    rw [show unscopedBufs c (fun b => m ((c : Thread nD τ).loc b)) = (StableHlo.held (c : Thread nD τ) bufs (fun b => m (c, b)) : sProp 𝕄)
      from Pipeline.unscopedBufs_held c (fun b => m (c, b)), sems_eq]
    unfold mine
    iintro ⟨Hh, Hs, HO, Hc, Hp, HG⟩
    isplitl [Hh HO Hc Hp]
    · isplitl [Hh]; · iexact Hh
      isplitl [HO]; · iexact HO
      isplitl [Hc]; · iapply hcr; iexact Hc
      iexact Hp
    isplitl [Hs] <;> iassumption
  have hall : (bigSep Finset.univ fun c : Dev nD => iprop(unscopedBufs c (fun b => m ((c : Thread nD τ).loc b)) ∗ unscopedSems0 c
        ∗ owes (c : Thread nD τ) (owe c toksA) ∅ ∗ Pipeline.launchCred (fun d : Dev nD => owe d toksA) c ∗ prngReg c (ρ c) ∗ G c))
      ⊢ iprop((bigSep Finset.univ fun c => mine m ρ c) ∗ (bigSep Finset.univ fun c : Dev nD => (semVal (cell c .b0) 0 : sProp 𝕄)) ∗ parked) := by
    refine (bigSep_mono fun c _ => hcore c).trans ?_
    rw [bigSep_sep', bigSep_sep', ← G_all]
    exact BI.Entails.refl _
  have hbar (Φ : GSem nD τ sig → sProp 𝕄) : bigSep barCells Φ = bigSep Finset.univ fun c : Dev nD => Φ (cell c .b0) := bigSep_map (s := Finset.univ) barEmb (Φ := Φ)
  have hv : (bigSep Finset.univ fun c : Dev nD => (semVal (cell c .b0) 0 : sProp 𝕄)) ⊢ bigSep barCells (fun g => (semVal g 0 : sProp 𝕄)) :=
    Entails.of_eq (hbar fun g => (semVal g 0 : sProp 𝕄)).symm
  have hat : bigSep barCells (fun g => (atPos (ER (F := F)) g 0 ∅ 0 : sProp 𝕄)) ⊢ bigSep Finset.univ fun c : Dev nD => pos c 0 .b0 := Entails.of_eq (hbar fun g => (atPos (ER (F := F)) g 0 ∅ 0 : sProp 𝕄))
  have hre : bigSep barCells (fun g => (reached (ER (F := F)) g 0 : sProp 𝕄)) ⊢ bigSep Finset.univ fun c : Dev nD => reached (ER (F := F)) (cell c .b0) 0 :=
    Entails.of_eq (hbar fun g => (reached (ER (F := F)) g 0 : sProp 𝕄))
  have hop : bigSep ownCells (fun g => (openTok (ER (F := F)) g : sProp 𝕄))
      ⊢ bigSep Finset.univ fun c : Dev nD => bigSep (Finset.univ : Finset Own) fun k => openTok (ER (F := F)) (cell c k.1) :=
    Entails.of_eq (by rw [bigSep_map, bigSep_univ_prod]; rfl)
  have hinv (κ : GSem nD τ sig → ℕ) : (bigSep (barCells ∪ ownCells) fun g => (cellInv (ER (F := F)) (sched (xin m)) (κ g) g : sProp 𝕄)) ⊢ invs (xin m) κ := by
    refine (bigSep_subset all_sub).trans ?_
    rw [bigSep_map]
    exact BI.Entails.refl _
  have htok := toks_dealt (F := F)
  have hz₁ := bigSep_zip (F := F) (Finset.univ : Finset (Dev nD)) (fun c => dealt c) (fun c => mine m ρ c)
  have hz₂ : iprop((bigSep Finset.univ fun c : Dev nD => pos (F := F) c 0 .b0)
      ∗ (bigSep Finset.univ fun c : Dev nD => bigSep (Finset.univ : Finset Own) fun k => openTok (ER (F := F)) (cell c k.1)) ∗ bigSep Finset.univ fun c : Dev nD => toks (F := F) c)
      ⊢ bigSep Finset.univ fun c : Dev nD => dealt (F := F) c := by
    unfold dealt
    rw [bigSep_sep', bigSep_sep']
  iintro ⟨H, -⟩
  ihave H' := hall $$ H
  icases H' with ⟨HM, Hv, Hu⟩
  unfold parked
  imod (Rounds.fund_launch (ER (F := F)) (sched (xin m)) disjoint_cells (fun g _ h => h) dutyToks) $$ [Hv Hu] with ⟨%κ, -, #Hinv, #Hr, Hat, Hopen, Htok⟩
  · isplitl [Hv]
    · iapply hv; iexact Hv
    · iexact Hu
  imodintro
  iapply (bigSep_with_persistent (R := known m κ) (Φ := fun c => iprop(dealt c ∗ mine m ρ c)) fun c _ => start_all m ρ κ c)
  isplitr
  · unfold known
    isplitr
    · iapply (hinv κ); iexact Hinv
    iapply hre; iexact Hr
  iapply hz₁
  isplitr [HM]
  · iapply hz₂
    isplitl [Hat]; · iapply hat; iexact Hat
    isplitl [Hopen]; · iapply hop; iexact Hopen
    iapply htok; iexact Htok
  iexact HM

/-! ## The run -/

/-- What the last host lines leave in a buffer. -/
abbrev Wn (c : Dev nD) : Valuation τ sig (Elt F) := StableHlo.after hostOps1 (W' m c)

theorem Wn_keep (c : Dev nD) (b : Ref sig .tc) (hb : Proc.devRef .tc b ∈ restRefs) (h4 : b ≠ main_v4) (h5 : b ≠ main_v5) :
    Wn m c (Proc.devRef .tc b) = V0 m c (Proc.devRef .tc b) := by
  unfold Wn
  rw [StableHlo.after_of_forall_not_mem (b := Proc.devRef .tc b) _ _ (List.forall_iff_forall_mem.mp (by
    simp only [hostOps1, List.Forall, StableHlo.unary_writes, StableHlo.reshape_writes, Finset.mem_singleton]
    exact ⟨StableHlo.devRef_ne_of_ne h4, StableHlo.devRef_ne_of_ne h5⟩))]
  exact W'_rest m c _ hb

theorem rest_args : Proc.devRef .tc main_arg0 ∈ (restRefs : Finset (DevRef τ sig)) ∧ Proc.devRef .tc main_arg1 ∈ (restRefs : Finset (DevRef τ sig))
    ∧ Proc.devRef .tc main_arg2 ∈ (restRefs : Finset (DevRef τ sig)) := by decide
theorem v5_bufs : Proc.devRef .tc main_v5 ∈ bufs := by decide

set_option backward.isDefEq.respectTransparency.types false in
/-- From any memory with every counter at zero, every fair run of the program on the sixteen devices ends, and leaves the arguments as they were,
    the result what the host lines make of the kernel's, and every counter at zero. -/
theorem run_main : θ_run defs (onTc (τ := τ) (main (F := F))) ⟨m, fun _ => 0, ρ⟩
    (fun r => (∀ c : Dev nD, r.2.mem ((c : Thread nD τ).loc main_v5) = Wn m c (Proc.devRef .tc main_v5)
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (seg1 m) (region m) rfl rfl c]; rfl)
    (by simp only [segs, Pipeline.Seg.pipes_host, Pipeline.Seg.pipes_region, Pipeline.Seg.pipes_nil]; decide)
    (O₀ := fun d : Dev nD => owe d toksA) (hL := L_of_ne) (G := G) (u₀ := u₀ (F := F))
    (hu₀ := by
      unfold u₀
      rw [G_all]
      unfold parked
      iintro Hu
      ihave H := (ownU_pair _ _) $$ Hu
      icases H with ⟨HP, HX⟩
      imodintro
      isplitl [HP]; · iexact HP
      iexact HX)
    (T₀ := T₀ m) (Tₙ := Tₙ m)
    (hch := by
      refine ⟨fun c => .rfl, fun c => region_pre m c, fun c => region_post m c, fun c => ?_⟩
      show iprop(StableHlo.held (c : Thread nD τ) bufs (StableHlo.after hostOps1 (W' m c)) ∗ (semVal (cell c .b0) 0 ∗ ∃ W, owes (c : Thread nD τ) (owe c []) W))
        ⊢ iprop(Tₙ m c ∗ ∃ W, owes (c : Thread nD τ) (0 : CellTallies nD τ sig Unit) W)
      iintro ⟨Hh, Hb, HO⟩
      isplitr [HO]
      · isplitl [Hh] <;> iassumption
      · iexact HO)
    (hinit := init m ρ)
    (QY := fun c s => (∀ b ∈ bufs, s.mem (c, b) = Wn m c b) ∧ s.sem (cell c .b0) = 0)
    (hfin := fun c s' => by
      have hr := pointsTo_read_all (Val := Elt F) (Ix := Unit) (Name := ℕ) (U := UU) (Lvl := ℕ) bufs (fun b => ((c, b) : Loc nD τ sig)) (fun b => Wn m c b) s'
      have hh : (StableHlo.held (c : Thread nD τ) bufs (StableHlo.after hostOps1 (W' m c)) : sProp 𝕄)
          ⊢ bigSep bufs (fun b => (((c, b) : Loc nD τ sig) ↦{fullShare} Wn m c b)) := .rfl
      iintro ⟨⟨Hh, Hb⟩, HSI⟩
      icombine HSI Hb gives %hb
      ihave H := hr $$ [Hh HSI]
      · isplitl [Hh]
        · iapply hh; iexact Hh
        · iexact HSI
      icases H with ⟨%hm, HSI⟩
      imodintro
      isplitr
      · ipureintro
        exact ⟨hm, by simpa using hb⟩
      iexact HSI)
    (hQ := fun s h hs => ⟨fun c => ⟨(h c).1 _ v5_bufs,
        ((h c).1 _ (Finset.mem_sdiff.mp rest_args.1).1).trans ((Wn_keep m c main_arg0 rest_args.1 (by decide) (by decide)).trans (V_main_arg0 m c)),
        ((h c).1 _ (Finset.mem_sdiff.mp rest_args.2.1).1).trans ((Wn_keep m c main_arg1 rest_args.2.1 (by decide) (by decide)).trans (V_main_arg1 m c)),
        ((h c).1 _ (Finset.mem_sdiff.mp rest_args.2.2).1).trans ((Wn_keep m c main_arg2 rest_args.2.2 (by decide) (by decide)).trans (V_main_arg2 m c))⟩,
      sem_eq_zero hs fun c sm hsm => by
        obtain rfl := unscoped_eq sm hsm
        exact (h c).2⟩)

end Cert.KernelIdeal.Flash

end

end
-- ==== Proof.Frames.lean ====
/- The frames: the kernel as printed and its idealization by the one run, the reference by its generated run. -/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Proof

open Idealize.ShloMosaic Idealize.SL.Sem

section

open Cert.KernelIdeal

/-- The kernel's run leaves its arguments as they were and every counter at zero, over any floats. -/
theorem frame_any {F : FTy → Type} [FloatOps F] [Named F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0) :=
  (θ_run defs _ _).mono (fun _ h => ⟨fun c => (h.1 c).2, h.2⟩) (Flash.run_main m ρ)

end

/-- At words the named constant is its word. -/
@[reducible] def wordNamed : Named Bits where
  named _ _ {φ} b := Scalar.ofBits φ b

/-- The printed kernel's table of functions is its idealization's, the name read as its word. -/
theorem body_eq : Cert.Kernel.defs₀ (F := Bits) = @Cert.KernelIdeal.defs₀ Bits _ wordNamed _ := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))
theorem defs_eq : Cert.Kernel.defs (F := Bits) = @Cert.KernelIdeal.defs Bits _ wordNamed _ := congrArg (Pipeline.defs Cert.KernelIdeal.pcfgs) body_eq

/-- The kernel as printed. -/
theorem frame_kernel : Cert.quiescent_Kernel := fun m ρ _ => by
  letI := wordNamed
  have h := frame_any (F := Bits) m ρ
  rw [← defs_eq] at h
  exact h

/-- The same program over the extended reals. -/
theorem frame_ideal : Cert.quiescent_KernelIdeal := fun m ρ _ => frame_any (F := Ideal) m ρ

/-- The reference: host lines only, on one device with no counter. -/
theorem frame_ref : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

end Cert.Proof

end
-- ==== Proof.Math.lean ====
/- The mathematics of a split softmax: an average weighted by exponentials, cut into parts whose log-sum-exps are kept,
   put together again. Everything here is over the reals, or over the reals inside the extended reals. -/
module

public import proofs.«01_k».proof.Proof.Schedule
public import Idealize.ShloMosaic.PureOps.Ideal.Laws

@[expose] public section

noncomputable section

namespace Cert.KernelIdeal.Flash

open Idealize.ShloMosaic

/-! ## Extended reals that are real -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_real (a : ℝ) {b : ℝ} (hb : b ≠ 0) : Ideal.div (a : EReal) (b : EReal) = ((a / b : ℝ) : EReal) := by
  rw [Ideal.div_coe hb, ← EReal.coe_mul, mul_one_div]

theorem log_real {a : ℝ} (ha : 0 < a) : Ideal.log (a : EReal) = ((Real.log a : ℝ) : EReal) := by
  rw [Ideal.log_coe, if_neg (not_le.mpr ha)]

theorem max_real (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The greatest of finitely many reals, and at least one, is real. -/
theorem fold_max_real {n : ℕ} (f : Fin (n + 1) → ℝ) :
    ∃ M : ℝ, (Finset.univ : Finset (Fin (n + 1))).fold max (⊥ : EReal) (fun k => (f k : EReal)) = (M : EReal) := by
  classical
  have key : ∀ s : Finset (Fin (n + 1)), s.Nonempty → ∃ M : ℝ, s.fold max (⊥ : EReal) (fun k => (f k : EReal)) = (M : EReal) := by
    intro s hs
    induction hs using Finset.Nonempty.cons_induction with
    | singleton a => exact ⟨f a, by simp⟩
    | cons a s ha _ ih =>
      obtain ⟨M, hM⟩ := ih
      exact ⟨max (f a) M, by rw [Finset.fold_cons, hM, max_real]⟩
  exact key _ Finset.univ_nonempty

/-- What the written bound of a maximum denotes: nothing is below it. -/
theorem bits_bot : Ideal.ofBits .f32 0xFF800000#32 = ⊥ := by simp [Ideal.ofBits, Ideal.ieee]
theorem bits_top : Ideal.ofBits .f32 0x7F800000#32 = ⊤ := by simp [Ideal.ofBits, Ideal.ieee]

/-- The factor the scores are scaled by, and what its name denotes. -/
def scale : ℝ := (Real.sqrt 128)⁻¹
theorem named_scale : Named.named (F := Ideal) (φ := .f32) κ "inv_sqrt_d" 0x3DB504F3#32 = (scale : EReal) := rfl

/-- An extended real whose absolute value is below infinity is a real. -/
theorem real_of_finite {a : EReal} (h : max a (-a) < ⊤) : a = (a.toReal : EReal) := by
  refine (EReal.coe_toReal ?_ ?_).symm
  · rintro rfl; simp at h
  · rintro rfl; simp at h

/-! ## The weights -/

section Weights
variable {ι : Type*} [Fintype ι] (s v : ι → ℝ)

/-- The sum of the exponentials of the scores, -/
def expSum : ℝ := ∑ i, Real.exp (s i)
/-- and the sum of the values by those weights. -/
def expDot : ℝ := ∑ i, Real.exp (s i) * v i

theorem expSum_pos [Nonempty ι] : 0 < expSum s :=
  Finset.sum_pos (fun i _ => Real.exp_pos _) Finset.univ_nonempty

/-- Scores shifted by `M` scale the sums by `e^(-M)`. -/
theorem expSum_shift (M : ℝ) : ∑ i, Real.exp (s i - M) = Real.exp (-M) * expSum s := by
  rw [expSum, Finset.mul_sum]
  exact Finset.sum_congr rfl fun i _ => by rw [← Real.exp_add]; ring_nf
theorem expDot_shift (M : ℝ) : ∑ i, Real.exp (s i - M) * v i = Real.exp (-M) * expDot s v := by
  rw [expDot, Finset.mul_sum]
  exact Finset.sum_congr rfl fun i _ => by rw [← mul_assoc, ← Real.exp_add]; ring_nf

/-- So the average does not see the shift, -/
theorem avg_shift [Nonempty ι] (M : ℝ) :
    (∑ i, Real.exp (s i - M) * v i) / (∑ i, Real.exp (s i - M)) = expDot s v / expSum s := by
  rw [expSum_shift, expDot_shift, mul_div_mul_left _ _ (Real.exp_pos _).ne']

/-- nor, the shift added back, does the log-sum-exp. -/
theorem lse_shift [Nonempty ι] (M : ℝ) : M + Real.log (∑ i, Real.exp (s i - M)) = Real.log (expSum s) := by
  rw [expSum_shift, Real.log_mul (Real.exp_pos _).ne' (expSum_pos s).ne', Real.log_exp]; ring

end Weights

/-! ## Two parts put together -/

section Merge
variable {Z Z' : ℝ} (hZ : 0 < Z) (hZ' : 0 < Z') (N N' : ℝ)
include hZ hZ'

/-- The other part's weight, from the two log-sum-exps. -/
theorem weight_real : Ideal.div 1 (1
      + Ideal.exp (((Real.log Z : ℝ) : EReal) - ((Real.log Z' : ℝ) : EReal))) = ((Z' / (Z + Z') : ℝ) : EReal) := by
  rw [← EReal.coe_one, ← EReal.coe_sub, Ideal.exp_coe, ← EReal.coe_add, div_real _ (by positivity), Real.exp_sub, Real.exp_log hZ, Real.exp_log hZ']
  congr 1
  field_simp
  ring

/-- The log-sum-exp of the whole. -/
theorem lse_real : max ((Real.log Z : ℝ) : EReal) ((Real.log Z' : ℝ) : EReal)
      + Ideal.log (Ideal.exp (((Real.log Z : ℝ) : EReal) - max ((Real.log Z : ℝ) : EReal) ((Real.log Z' : ℝ) : EReal))
        + Ideal.exp (((Real.log Z' : ℝ) : EReal) - max ((Real.log Z : ℝ) : EReal) ((Real.log Z' : ℝ) : EReal)))
      = ((Real.log (Z + Z') : ℝ) : EReal) := by
  rw [max_real]
  generalize max (Real.log Z) (Real.log Z') = M
  rw [← EReal.coe_sub, ← EReal.coe_sub, Ideal.exp_coe, Ideal.exp_coe, ← EReal.coe_add, log_real (by positivity), ← EReal.coe_add]
  congr 1
  have h : Real.exp (Real.log Z - M) + Real.exp (Real.log Z' - M) = Real.exp (-M) * (Z + Z') := by
    rw [Real.exp_sub, Real.exp_sub, Real.exp_log hZ, Real.exp_log hZ', Real.exp_neg]; ring
  rw [h, Real.log_mul (Real.exp_pos _).ne' (by positivity), Real.log_exp]
  ring

/-- The average of the whole. -/
theorem avg_real : ((N / Z : ℝ) : EReal) + ((Z' / (Z + Z') : ℝ) : EReal) * (((N' / Z' : ℝ) : EReal) - ((N / Z : ℝ) : EReal))
      = (((N + N') / (Z + Z') : ℝ) : EReal) := by
  rw [← EReal.coe_sub, ← EReal.coe_mul, ← EReal.coe_add]
  congr 1
  field_simp
  ring

end Merge

/-! ## Every device's part, reached in four rounds -/

/-- What device `c` has collected of `f` before round `n`. -/
def acc (f : Dev nD → ℝ) : ℕ → Dev nD → ℝ
  | 0, c => f c
  | n + 1, c => acc f n c + acc f n (par n c)

theorem acc_pos (f : Dev nD → ℝ) (hf : ∀ c, 0 < f c) : ∀ n c, 0 < acc f n c
  | 0, c => hf c
  | n + 1, c => add_pos (acc_pos f hf n c) (acc_pos f hf n (par n c))

/-- After the four rounds it is the sum over all the devices. -/
theorem acc_four (f : Dev nD → ℝ) (c : Dev nD) : acc f 4 c = ∑ a : Dev nD, f a := by
  have h : ∑ a : Dev nD, f a = ∑ a : Fin 16, f a := rfl
  rw [h]
  simp only [acc, Fin.sum_univ_succ]
  revert c
  show ∀ c : Fin 16, _
  intro c
  fin_cases c <;> simp [par, flip] <;> ring!

end Cert.KernelIdeal.Flash

end
end
-- ==== Proof.Values.lean ====
/- What the devices hold after each round, at inputs that are real numbers: each row's average of the values collected so
   far, weighted by the exponentials of the scores, and the logarithm of the weights' sum. -/
module

public import proofs.«01_k».proof.Proof.Math
public import Idealize.ShloMosaic.Lib.Pointwise

@[expose] public section

noncomputable section

namespace Cert.KernelIdeal.Flash

open Cert.KernelIdeal.Gen
open Idealize.ShloMosaic Idealize.ShloMosaic.TcCoe

theorem ix2_eq {a b : ℕ} (p : Fin a) (q : Fin b) : i2 (d := ![a, b]) p q = ix2 p q := by
  funext r; match r with | ⟨0, _⟩ | ⟨1, _⟩ => rfl
theorem ix3_eq {a b c : ℕ} (p : Fin a) (q : Fin b) (r : Fin c) : i3 (d := ![a, b, c]) p q r = ix3 p q r := by
  funext r; match r with | ⟨0, _⟩ | ⟨1, _⟩ | ⟨2, _⟩ => rfl

/-! ## One row of one device -/

/-- The scaled score of two rows. -/
def score (q k : Fin 128 → ℝ) : ℝ := (∑ d, q d * k d) * scale

section Row
variable (a : Vec Ideal S1x32x128 .f32) (b v : Vec Ideal S1x512x128 .f32)
variable (qf : Fin 32 → Fin 128 → ℝ) (kf vf : Fin 512 → Fin 128 → ℝ)

/-- The scores of query `q` against each key. -/
def scores (q : Fin 32) : Fin 512 → ℝ := fun k => score (qf q) (kf k)

variable (ha : ∀ q d, a (ix3 0 q d) = (qf q d : EReal)) (hb : ∀ k d, b (ix3 0 k d) = (kf k d : EReal))
  (hv : ∀ k d, v (ix3 0 k d) = (vf k d : EReal))

include ha hb in
theorem pay2_at (q : Fin 32) (k : Fin 512) : k0_pay2 a b (ix2 q k) = (scores qf kf q k : EReal) := by
  pointwise [k0_pay2]
  simp only [ha, hb, named_scale, ← EReal.coe_mul, ← coe_sum]
  rfl

include ha hb in
theorem pay3_at (q : Fin 32) : ∃ M : ℝ, ∀ u : Fin 1, k0_pay3 a b (ix2 q u) = (M : EReal) := by
  obtain ⟨M, hM⟩ := fold_max_real (n := 511) (scores qf kf q)
  refine ⟨M, fun u => ?_⟩
  pointwise [k0_pay3]
  rw [← hM, bits_bot]
  exact congrArg (fun f => Finset.fold max ⊥ f Finset.univ) (funext fun k => pay2_at a b qf kf ha hb q k)

include ha hb in
theorem pay4_at (q : Fin 32) (M : ℝ) (hM : ∀ u : Fin 1, k0_pay3 a b (ix2 q u) = (M : EReal)) (k : Fin 512) :
    k0_pay4 a b (ix2 q k) = (Real.exp (scores qf kf q k - M) : EReal) := by
  pointwise [k0_pay4]
  rw [pay2_at a b qf kf ha hb, hM, ← EReal.coe_sub, Ideal.exp_coe]

include ha hb in
theorem pay5_at (q : Fin 32) (M : ℝ) (hM : ∀ u : Fin 1, k0_pay3 a b (ix2 q u) = (M : EReal)) (u : Fin 1) :
    k0_pay5 a b (ix2 q u) = ((∑ k, Real.exp (scores qf kf q k - M) : ℝ) : EReal) := by
  pointwise [k0_pay5]
  rw [coe_sum]
  exact Finset.sum_congr rfl fun k _ => pay4_at a b qf kf ha hb q M hM k

include ha hb hv in
/-- The row's output is the average of the values. -/
theorem pay6_at (q : Fin 32) (d : Fin 128) :
    k0_pay6 a b v (ix3 0 q d)
      = ((expDot (scores qf kf q) (fun k => vf k d) / expSum (scores qf kf q) : ℝ) : EReal) := by
  obtain ⟨M, hM⟩ := pay3_at a b qf kf ha hb q
  pointwise [k0_pay6]
  rw [pay5_at a b qf kf ha hb q M hM]
  simp only [pay4_at a b qf kf ha hb q M hM, hv, ← EReal.coe_mul, ← coe_sum]
  rw [div_real _ (Finset.sum_pos (fun i _ => Real.exp_pos _) Finset.univ_nonempty).ne', avg_shift]

include ha hb in
/-- The row's log-sum-exp is that of the scores. -/
theorem pay7_at (q : Fin 32) (u : Fin 1) :
    k0_pay7 a b (ix2 q u) = ((Real.log (expSum (scores qf kf q)) : ℝ) : EReal) := by
  obtain ⟨M, hM⟩ := pay3_at a b qf kf ha hb q
  pointwise [k0_pay7]
  rw [hM, pay5_at a b qf kf ha hb q M hM, log_real (Finset.sum_pos (fun i _ => Real.exp_pos _) Finset.univ_nonempty),
    ← EReal.coe_add, lse_shift]

end Row

/-! ## All of the devices -/

/-- The real numbers the devices' inputs are: a query of a row, a device's keys and values of a row. -/
structure Reals where
  q : Fin 32 → Fin 32 → Fin 128 → ℝ
  k : Dev nD → Fin 32 → Fin 512 → Fin 128 → ℝ
  v : Dev nD → Fin 32 → Fin 512 → Fin 128 → ℝ

/-- That they are. -/
structure Reals.Of (R : Reals) (x : In Ideal) : Prop where
  q : ∀ c j q d, x.q c (ix3 j q d) = (R.q j q d : EReal)
  k : ∀ c j k d, kblk x c j (ix2 k d) = (R.k c j k d : EReal)
  v : ∀ c j k d, vblk x c j (ix2 k d) = (R.v c j k d : EReal)

namespace Reals
variable (R : Reals)

/-- Device `c`'s scores of a row's query, -/
def s (j q : Fin 32) (c : Dev nD) : Fin 512 → ℝ := scores (R.q j) (R.k c j) q
/-- the sum of their exponentials, and of the values weighted by them. -/
def Z (j q : Fin 32) (c : Dev nD) : ℝ := expSum (R.s j q c)
def N (j q : Fin 32) (d : Fin 128) (c : Dev nD) : ℝ := expDot (R.s j q c) fun k => R.v c j k d

theorem Z_pos (j q : Fin 32) (c : Dev nD) : 0 < R.Z j q c := expSum_pos _

end Reals

variable {x : In Ideal} {R : Reals} (h : R.Of x)
include h

theorem qrow_at (c : Dev nD) (j q : Fin 32) (d : Fin 128) : qrow x c j (ix3 0 q d) = (R.q j q d : EReal) := by
  rw [← h.q c]
  refine congrArg (x.q c) (funext fun a => Fin.ext ?_)
  rw [Rect.emb_apply]
  match a with
  | ⟨0, _⟩ => show j.val + 1 * 0 = j.val; omega
  | ⟨1, _⟩ => show 0 + 1 * q.val = q.val; omega
  | ⟨2, _⟩ => show 0 + 1 * d.val = d.val; omega

theorem krow_at (c : Dev nD) (j : Fin 32) (k : Fin 512) (d : Fin 128) : krow x c j (ix3 0 k d) = (R.k c j k d : EReal) := by
  rw [← h.k c, ← ix2_eq]; rfl
theorem vrow_at (c : Dev nD) (j : Fin 32) (k : Fin 512) (d : Fin 128) : vrow x c j (ix3 0 k d) = (R.v c j k d : EReal) := by
  rw [← h.v c, ← ix2_eq]; rfl

theorem o0_at (c : Dev nD) (j q : Fin 32) (d : Fin 128) :
    o0 x c (ix3 j q d) = ((R.N j q d c / R.Z j q c : ℝ) : EReal) := by
  have e : o0 x c (ix3 j q d) = k0_pay6 (qrow x c j) (krow x c j) (vrow x c j) (ix3 0 q d) := by rw [← ix3_eq 0 q d]; rfl
  rw [e]
  exact pay6_at _ _ _ (R.q j) (R.k c j) (R.v c j) (qrow_at h c j) (krow_at h c j) (vrow_at h c j) q d

theorem l0_at (c : Dev nD) (j q : Fin 32) (jj : Fin 128) (hj : jj.val = j.val) :
    l0 x c (ix2 q jj) = ((Real.log (R.Z j q c) : ℝ) : EReal) := by
  have hlt : jj.val < 32 := by have := j.isLt; omega
  obtain rfl : j = ⟨jj.val, hlt⟩ := Fin.ext hj.symm
  have e : l0 x c (ix2 q jj) = k0_pay7 (qrow x c ⟨jj.val, hlt⟩) (krow x c ⟨jj.val, hlt⟩) (ix2 q 0) := by
    rw [← ix2_eq q 0]; exact dif_pos hlt
  rw [e]
  exact pay7_at _ _ (R.q _) (R.k c _) (qrow_at h c _) (krow_at h c _) q 0
omit h

/-! ## One round -/

section Step
variable {s t : St Ideal} {Z Z' : Fin 32 → Fin 32 → ℝ} {N N' : Fin 32 → Fin 32 → Fin 128 → ℝ}

/-- What the two buffers of a device mean: `Z` are the sums of the weights and `N` the weighted sums of the values. -/
structure Holds (s : St Ideal) (Z : Fin 32 → Fin 32 → ℝ) (N : Fin 32 → Fin 32 → Fin 128 → ℝ) : Prop where
  pos : ∀ j q, 0 < Z j q
  o : ∀ j q d, s.o (ix3 j q d) = ((N j q d / Z j q : ℝ) : EReal)
  l : ∀ j q (jj : Fin 128), jj.val = j.val → s.l (ix2 q jj) = ((Real.log (Z j q) : ℝ) : EReal)

variable (hs : Holds s Z N) (ht : Holds t Z' N')
include hs ht

theorem wt_at (j q : Fin 32) (jj : Fin 128) (hj : jj.val = j.val) :
    wt s.l t.l (ix2 q jj) = ((Z' j q / (Z j q + Z' j q) : ℝ) : EReal) := by
  have e : lrow t.l (ix3 0 q jj) = t.l (ix2 q jj) := by rw [← ix2_eq]; rfl
  unfold wt
  pointwise [k0_pay239, k0_pay238]
  rw [e, hs.l j q jj hj, ht.l j q jj hj]
  exact weight_real (hs.pos j q) (ht.pos j q)

theorem mrgL_at (j q : Fin 32) (jj : Fin 128) (hj : jj.val = j.val) :
    mrgL s.l t.l (ix2 q jj) = ((Real.log (Z j q + Z' j q) : ℝ) : EReal) := by
  have e : lrow t.l (ix3 0 q jj) = t.l (ix2 q jj) := by rw [← ix2_eq]; rfl
  unfold mrgL
  pointwise [k0_pay240, k0_pay238]
  rw [e, hs.l j q jj hj, ht.l j q jj hj]
  exact lse_real (hs.pos j q) (ht.pos j q)

theorem mrgAll_at (j q : Fin 32) (d : Fin 128) :
    mrgAll (wt s.l t.l) s.o (sAll t.o) (ix3 j q d) = (((N j q d + N' j q d) / (Z j q + Z' j q) : ℝ) : EReal) := by
  have e : arow (sAll t.o) (ix4 0 j q d) = t.o (ix3 j q d) := by
    rw [← ix3_eq j q d]
    show k0_pay237 t.o _ = _
    pointwise [k0_pay237]
  unfold mrgAll
  pointwise [k0_pay241]
  rw [e, hs.o, ht.o, wt_at hs ht j q _ rfl]
  exact avg_real (hs.pos j q) (ht.pos j q) _ _

theorem mrgLo_at (j q : Fin 32) (d : Fin 128) (i : Fin 16) (hi : j.val = i.val) :
    mrgLo (wt s.l t.l) s.o (sLo t.o) (ix3 i q d) = (((N j q d + N' j q d) / (Z j q + Z' j q) : ℝ) : EReal) := by
  have eo (u : Vec Ideal S32x32x128 .f32) : u (loR.emb (ix3 i q d)) = u (ix3 j q d) := by
    refine congrArg u (funext fun a => Fin.ext ?_)
    rw [Rect.emb_apply]
    match a with
    | ⟨0, _⟩ => show 0 + 1 * i.val = j.val; omega
    | ⟨1, _⟩ => show 0 + 1 * q.val = q.val; omega
    | ⟨2, _⟩ => show 0 + 1 * d.val = d.val; omega
  have e : hrow (sLo t.o) (ix4 0 i q d) = t.o (ix3 j q d) := by
    rw [← eo t.o]
    refine (congrArg (k0_pay116 (F := Ideal) fun i => t.o (loR.emb i)) (ix3_eq i q d)).trans ?_
    pointwise [k0_pay116]
  unfold mrgLo
  pointwise [k0_pay235]
  rw [e, eo s.o, hs.o, ht.o, wt_at hs ht j q _ hi.symm]
  exact avg_real (hs.pos j q) (ht.pos j q) _ _

theorem mrgHi_at (j q : Fin 32) (d : Fin 128) (i : Fin 16) (hi : j.val = 16 + i.val) :
    mrgHi (wt s.l t.l) s.o (sHi t.o) (ix3 i q d) = (((N j q d + N' j q d) / (Z j q + Z' j q) : ℝ) : EReal) := by
  have eo (u : Vec Ideal S32x32x128 .f32) : u (hiR.emb (ix3 i q d)) = u (ix3 j q d) := by
    refine congrArg u (funext fun a => Fin.ext ?_)
    rw [Rect.emb_apply]
    match a with
    | ⟨0, _⟩ => show 16 + 1 * i.val = j.val; omega
    | ⟨1, _⟩ => show 0 + 1 * q.val = q.val; omega
    | ⟨2, _⟩ => show 0 + 1 * d.val = d.val; omega
  have e : hrow (sHi t.o) (ix4 0 i q d) = t.o (ix3 j q d) := by
    rw [← eo t.o]
    refine (congrArg (k0_pay116 (F := Ideal) fun i => t.o (hiR.emb i)) (ix3_eq i q d)).trans ?_
    pointwise [k0_pay116]
  unfold mrgHi
  pointwise [k0_pay236]
  rw [e, eo s.o, hs.o, ht.o, wt_at hs ht j q _ hi.symm]
  exact avg_real (hs.pos j q) (ht.pos j q) _ _

/-- A round puts a device's part and its partner's together. -/
theorem step_holds (n : ℕ) : Holds (step n s t) (fun j q => Z j q + Z' j q) (fun j q d => N j q d + N' j q d) := by
  refine ⟨fun j q => add_pos (hs.pos j q) (ht.pos j q), fun j q d => ?_, fun j q jj hj => ?_⟩
  · match n with
    | 0 =>
      by_cases hj : j.val < 16
      · refine Eq.trans (dif_pos hj) ?_
        exact (congrArg _ (ix3_eq (⟨j.val, hj⟩ : Fin 16) q d)).trans (mrgLo_at hs ht j q d ⟨j.val, hj⟩ rfl)
      · refine Eq.trans (dif_neg hj) ?_
        have hlt : j.val - 16 < 16 := by have := j.isLt; omega
        exact (congrArg _ (ix3_eq (⟨j.val - 16, hlt⟩ : Fin 16) q d)).trans
          (mrgHi_at hs ht j q d ⟨j.val - 16, hlt⟩ (by show j.val = 16 + (j.val - 16); omega))
    | _ + 1 => exact mrgAll_at hs ht j q d
  · match n with
    | 0 => exact mrgL_at hs ht j q jj hj
    | _ + 1 => exact mrgL_at hs ht j q jj hj

end Step

/-! ## Four rounds -/

include h

/-- Before round `n` a device holds the average over the keys of the devices it has heard of. -/
theorem st_holds : ∀ n c, Holds (st x n c) (fun j q => acc (R.Z j q) n c) (fun j q d => acc (R.N j q d) n c)
  | 0, c => ⟨fun j q => R.Z_pos j q c, o0_at h c, fun j q jj hj => l0_at h c j q jj hj⟩
  | n + 1, c => step_holds (st_holds n c) (st_holds n (par n c)) n

/-- In the end every device holds the average over all the keys. -/
theorem st_final (c : Dev nD) (j q : Fin 32) (d : Fin 128) :
    (st x 4 c).o (ix3 j q d) = (((∑ a, R.N j q d a) / (∑ a, R.Z j q a) : ℝ) : EReal) := by
  rw [(st_holds h 4 c).o, acc_four, acc_four]

end Cert.KernelIdeal.Flash

end
end
-- ==== Proof.Reference.lean ====
/- The reference's result at arguments that are real numbers: every query's average of the values, weighted by the
   exponentials of its scores against every key. -/
module

public import proofs.«01_k».proof.Proof.Values
public import proofs.«01_k».proof.Proof.Gen.ReferenceIdeal.Read

@[expose] public section

noncomputable section

namespace Cert.ReferenceIdeal.Whole

open Cert.ReferenceIdeal.Gen Cert.ReferenceIdeal.Read
open Cert.KernelIdeal.Flash (expSum expDot expSum_pos score bits_bot scale fold_max_real coe_sum avg_shift div_real)
open Idealize.ShloMosaic Idealize.ShloMosaic.TcCoe

/-- The real numbers the arguments are. -/
structure Reals where
  q : Fin 4 → Fin 32 → Fin 8 → Fin 128 → ℝ
  k : Fin 4 → Fin 8192 → Fin 8 → Fin 128 → ℝ
  v : Fin 4 → Fin 8192 → Fin 8 → Fin 128 → ℝ

variable (x0 : (⟨S4x32x8x128, .f32⟩ : BufTy).Contents (Elt Ideal)) (x1 x2 : (⟨S4x8192x8x128, .f32⟩ : BufTy).Contents (Elt Ideal))

/-- That they are. -/
structure Reals.Of (A : Reals) : Prop where
  q : ∀ b q h d, x0 (ix4 b q h d) = (A.q b q h d : EReal)
  k : ∀ b k h d, x1 (ix4 b k h d) = (A.k b k h d : EReal)
  v : ∀ b k h d, x2 (ix4 b k h d) = (A.v b k h d : EReal)

/-- The scores of a query against every key. -/
def Reals.s (A : Reals) (b : Fin 4) (h : Fin 8) (q : Fin 32) : Fin 8192 → ℝ := fun k => score (A.q b q h) (A.k b k h)

variable {x0 x1 x2} {A : Reals} (hA : A.Of x0 x1 x2)
include hA

omit hA in
/-- The factor that the scores are scaled by: one over the root of 128. -/
theorem v1_at (i) : val_main_v1 (F := Ideal) i = (scale : EReal) := by
  have h128 : Ideal.ofBits .f32 0x43000000#32 = ((128 : ℝ) : EReal) := by
    simp [Ideal.ofBits, Ideal.ieee]
    rw [← EReal.coe_mul]
    norm_num
  have hne : Real.sqrt 128 ≠ 0 := by positivity
  rw [val_main_v1_apply, val_main_v0_apply, val_main_cst_apply, val_main_cst_0_apply]
  show Ideal.div (Ideal.ofBits .f32 0x3F800000#32) (Ideal.sqrt (Ideal.ofBits .f32 0x43000000#32)) = _
  rw [h128, Ideal.sqrt_coe, if_neg (by norm_num), Ideal.ofBits_one_f32, ← EReal.coe_one, div_real _ hne, one_div]
  rfl

theorem v4_at (b : Fin 4) (h : Fin 8) (q : Fin 32) (k : Fin 8192) :
    val_main_v4 (F := Ideal) x0 x1 (ix4 b h q k) = (A.s b h q k : EReal) := by
  pointwise [val_main_v4, val_main_v3, val_main_v2]
  rw [v1_at]
  simp only [hA.q, hA.k, ← EReal.coe_mul, ← coe_sum]
  rfl

theorem v5_at (b : Fin 4) (h : Fin 8) (q : Fin 32) :
    ∃ M : ℝ, val_main_v5 (F := Ideal) x0 x1 (ix3 b h q) = (M : EReal) := by
  obtain ⟨M, hM⟩ := fold_max_real (n := 8191) (A.s b h q)
  refine ⟨M, ?_⟩
  pointwise [val_main_v5, val_main_cst_1]
  rw [← hM, bits_bot]
  exact congrArg (fun f => Finset.fold max ⊥ f Finset.univ) (funext fun k => v4_at hA b h q k)

theorem v9_at (b : Fin 4) (h : Fin 8) (q : Fin 32) (M : ℝ) (hM : val_main_v5 (F := Ideal) x0 x1 (ix3 b h q) = (M : EReal))
    (k : Fin 8192) : val_main_v9 (F := Ideal) x0 x1 (ix4 b h q k) = (Real.exp (A.s b h q k - M) : EReal) := by
  pointwise [val_main_v9, val_main_v8, val_main_v7, val_main_v6]
  rw [v4_at hA, hM, ← EReal.coe_sub, Ideal.exp_coe]

theorem v10_at (b : Fin 4) (h : Fin 8) (q : Fin 32) (M : ℝ) (hM : val_main_v5 (F := Ideal) x0 x1 (ix3 b h q) = (M : EReal)) :
    val_main_v10 (F := Ideal) x0 x1 (ix3 b h q) = ((∑ k, Real.exp (A.s b h q k - M) : ℝ) : EReal) := by
  pointwise [val_main_v10, val_main_cst_2]
  rw [coe_sum]
  exact Finset.sum_congr rfl fun k _ => v9_at hA b h q M hM k

/-- The result. -/
theorem v15_at (b : Fin 4) (q : Fin 32) (h : Fin 8) (d : Fin 128) :
    val_main_v15 (F := Ideal) x0 x1 x2 (ix4 b q h d)
      = ((expDot (A.s b h q) (fun k => A.v b k h d) / expSum (A.s b h q) : ℝ) : EReal) := by
  obtain ⟨M, hM⟩ := v5_at hA b h q
  have hpos : 0 < ∑ k, Real.exp (A.s b h q k - M) := Finset.sum_pos (fun i _ => Real.exp_pos _) Finset.univ_nonempty
  pointwise [val_main_v15, val_main_v14, val_main_v13, val_main_v12, val_main_v11]
  simp only [v10_at hA b h q M hM, v9_at hA b h q M hM, hA.v, div_real _ hpos.ne', ← EReal.coe_mul, ← coe_sum]
  rw [← avg_shift _ _ M, Finset.sum_div]
  exact congrArg _ (Finset.sum_congr rfl fun k _ => by ring)

end Cert.ReferenceIdeal.Whole

end
end
-- ==== Proof.Algebraic.lean ====
/- The kernel and the reference over the reals: from arguments that are real numbers, every device ends with the
   reference's result. -/
module

public import proofs.«01_k».proof.Defs
public import proofs.«01_k».proof.Proof.Launch
public import proofs.«01_k».proof.Proof.Reference
public import proofs.«01_k».proof.Proof.Gen.ReferenceIdeal.Run
public import proofs.«01_k».proof.Proof.Gen.Pre_finite_inputs_KernelIdeal
public import Idealize.ShloMosaic.Lib.Claim
public import Idealize.ShloMosaic.Lib.Layout

@[expose] public section

noncomputable section

namespace Cert.KernelIdeal.Flash

open Cert.KernelIdeal.Gen
open Idealize.ShloMosaic Idealize.ShloMosaic.TcCoe Idealize.SL.Sem

theorem ix4_eq {a b c e : ℕ} (p : Fin a) (q : Fin b) (r : Fin c) (s : Fin e) : i4 (d := ![a, b, c, e]) p q r s = ix4 p q r s := by
  funext t; match t with | ⟨0, _⟩ | ⟨1, _⟩ | ⟨2, _⟩ | ⟨3, _⟩ => rfl

/-! ## Rows and keys numbered -/

/-- Row `j` is batch `j / 8` and head `j % 8`. -/
def bat (j : Fin 32) : Fin 4 := ⟨j.val / 8, by have := j.isLt; omega⟩
def head (j : Fin 32) : Fin 8 := ⟨j.val % 8, by omega⟩
def row (b : Fin 4) (h : Fin 8) : Fin 32 := ⟨b.val * 8 + h.val, by have := b.isLt; have := h.isLt; omega⟩

theorem bat_row (b : Fin 4) (h : Fin 8) : bat (row b h) = b := Fin.ext (by have := h.isLt; simp only [bat, row]; omega)
theorem head_row (b : Fin 4) (h : Fin 8) : head (row b h) = h := Fin.ext (by have := h.isLt; simp only [head, row]; omega)

/-- Key `i` of device `c`, among all of them. -/
def key (c : Dev nD) (i : Fin 512) : Fin 8192 := ⟨c.val * 512 + i.val, by have : c.val < 16 := c.isLt; have := i.isLt; omega⟩

/-- The devices' keys are all the keys. -/
theorem sum_keys (f : Fin 8192 → ℝ) : ∑ c : Dev nD, ∑ i, f (key c i) = ∑ k, f k := by
  rw [← Fintype.sum_prod_type']
  refine Fintype.sum_equiv (finProdFinEquiv (m := 16) (n := 512)) _ _ fun p => congrArg f (Fin.ext ?_)
  show p.1.val * 512 + p.2.val = p.2.val + 512 * p.1.val
  omega

/-! ## What a device finds -/

section Found
variable {F : FTy → Type} [FloatOps F] [Named F]

/-- The keys of row `j` in a device's half of them. -/
def near_key (c : Dev nD) (i : Fin 512) : Fin 4096 := ⟨c.val % 8 * 512 + i.val, by have := i.isLt; omega⟩

theorem koff_one (c : Dev nD) : k0_off1 c 1 = c.val % 8 * 512 := by
  rw [k0_off1_eq]
  show 2048 * ((c.val / 4) % 2) + 512 * (c.val % 4) = _
  omega

theorem blk_idx (j : Fin 32) (c : Dev nD) (i : Fin 512) (d : Fin 128) :
    (blkR j c).emb (ix4 (0 : Fin 1) i (0 : Fin 1) d) = ix4 (bat j) (near_key c i) (head j) d := by
  funext a
  refine Fin.ext ?_
  rw [Rect.emb_apply]
  match a with
  | ⟨0, _⟩ => show j.val / 8 + 1 * 0 = j.val / 8; omega
  | ⟨1, _⟩ => show k0_off1 c 1 + 1 * i.val = c.val % 8 * 512 + i.val; rw [koff_one]; omega
  | ⟨2, _⟩ => show j.val % 8 + 1 * 0 = j.val % 8; omega
  | ⟨3, _⟩ => show 0 + 1 * d.val = d.val; omega

theorem squeeze_idx (i : Fin 512) (d : Fin 128) :
    Shape.reshapeEquiv squeezes_S1x512x1x128_S512x128.numel_eq (ix2 i d) = ix4 (0 : Fin 1) i (0 : Fin 1) d :=
  Shape.reshapeEquiv_eq_of_rowMajor _ (by
    rw [Shape.rowMajor_val_four, Shape.rowMajor_val_two]
    show ((0 * 512 + i.val) * 1 + 0) * 128 + d.val = i.val * 128 + d.val
    omega)

theorem kblk_at (x : In F) (c : Dev nD) (j : Fin 32) (i : Fin 512) (d : Fin 128) :
    kblk x c j (ix2 i d) = x.k c (ix4 (bat j) (near_key c i) (head j) d) := by
  rw [← blk_idx, ← squeeze_idx]; rfl
theorem vblk_at (x : In F) (c : Dev nD) (j : Fin 32) (i : Fin 512) (d : Fin 128) :
    vblk x c j (ix2 i d) = x.v c (ix4 (bat j) (near_key c i) (head j) d) := by
  rw [← blk_idx, ← squeeze_idx]; rfl

variable (m : (ℓ : Loc nD τ sig) → Buf (Elt F) ℓ)

theorem V_main_v2 (c : Dev nD) : V m c main_v2
    = shapeCast S32x32x128 (transpose S4x8x32x128 [0, 2, 1, 3] (m ((c : Thread nD τ).loc main_arg0)) transposes_S4x32x8x128_S4x8x32x128_0_2_1_3)
        shapeCasts_S4x8x32x128_S32x32x128 := by
  show StableHlo.after (List.flatten [hostOps0]) (fun b => m (c, b)) (Proc.devRef .tc main_v2) = _
  simp only [hostOps0, List.flatten_cons, List.flatten_nil, List.append_nil]
  after_results
  rfl

theorem Wn_main_v5 (c : Dev nD) : Wn m c (Proc.devRef .tc main_v5)
    = transpose S4x32x8x128 [0, 2, 1, 3] (shapeCast S4x8x32x128 (W' m c (Proc.devRef .tc main_v3)) shapeCasts_S32x32x128_S4x8x32x128)
        transposes_S4x8x32x128_S4x32x8x128_0_2_1_3 := by
  after_results
  rfl

/-- The kernel's first operand, its rows the batches and heads. -/
theorem q_at (c : Dev nD) (j : Fin 32) (q : Fin 32) (d : Fin 128) :
    (xin m).q c (ix3 j q d) = m ((c : Thread nD τ).loc main_arg0) (ix4 (bat j) q (head j) d) := by
  show V m c main_v2 (ix3 j q d) = _
  rw [V_main_v2]
  refine (shapeCast_apply _ _ (ix3 j q d) (ix4 (bat j) (head j) q d) ?_).trans ?_
  · rw [Shape.rowMajor_val_four, Shape.rowMajor_val_three]
    show ((j.val / 8 * 8 + j.val % 8) * 32 + q.val) * 128 + d.val = (j.val * 32 + q.val) * 128 + d.val
    rw [Nat.div_add_mod']
  · refine congrArg (m ((c : Thread nD τ).loc main_arg0)) (funext fun t => ?_)
    match t with | ⟨0, _⟩ | ⟨1, _⟩ | ⟨2, _⟩ | ⟨3, _⟩ => rfl

/-- The kernel's result, its rows read back as batches and heads. -/
theorem result_at (c : Dev nD) (b : Fin 4) (q : Fin 32) (h : Fin 8) (d : Fin 128) :
    Wn m c (Proc.devRef .tc main_v5) (ix4 b q h d) = (st (xin m) 4 c).o (ix3 (row b h) q d) := by
  rw [Wn_main_v5, ← final_o]
  show shapeCast S4x8x32x128 (W' m c (Proc.devRef .tc main_v3)) shapeCasts_S32x32x128_S4x8x32x128 _ = _
  refine (congrArg _ (?_ : _ = ix4 b h q d)).trans ((shapeCast_apply _ _ (ix4 b h q d) (ix3 (row b h) q d) ?_).trans ?_)
  · funext t; match t with | ⟨0, _⟩ | ⟨1, _⟩ | ⟨2, _⟩ | ⟨3, _⟩ => rfl
  · rw [Shape.rowMajor_val_four, Shape.rowMajor_val_three]; rfl
  · exact congrFun (W'_arr m c 1) (ix3 (row b h) q d)

end Found

/-! ## From arguments that are real -/

variable {m : (ℓ : Loc nD τ sig) → Buf (Elt Ideal) ℓ}

/-- A value whose magnitude compares below the format's infinity is real. -/
theorem real_of_cmp {a : EReal} (h : Ideal.cmp .olt (max a (-a)) (Ideal.ofBits .f32 0x7F800000#32) = 1#1) : a = (a.toReal : EReal) := by
  refine real_of_finite (by_contra fun hn => ?_)
  rw [bits_top] at h
  unfold Ideal.cmp at h
  simp [hn] at h

/-- What the precondition says of one device's arguments. -/
theorem args_real (h : Cert.Pre_KernelIdeal_finite_inputs_KernelIdeal m) (c : Dev nD) :
    (∀ i, m ((c.tc : Thread nD τ).loc main_arg0) i = (EReal.toReal (m ((c.tc : Thread nD τ).loc main_arg0) i) : EReal))
    ∧ (∀ i, m ((c.tc : Thread nD τ).loc main_arg1) i = (EReal.toReal (m ((c.tc : Thread nD τ).loc main_arg1) i) : EReal))
    ∧ (∀ i, m ((c.tc : Thread nD τ).loc main_arg2) i = (EReal.toReal (m ((c.tc : Thread nD τ).loc main_arg2) i) : EReal)) :=
  ⟨fun i => real_of_cmp (congrFun (h c).1 i), fun i => real_of_cmp (congrFun (h c).2.1 i), fun i => real_of_cmp (congrFun (h c).2.2 i)⟩

/-- A device's half of the keys holds its own at their places in it. -/
theorem half_at {α : Type} (X : (⟨4, ![4, 8192, 8, 128]⟩ : Shape).Idx → α) (c : Dev nD) (b : Fin 4) (i : Fin 512) (h : Fin 8) (d : Fin 128) :
    (Layout.blockN ⟨4, ![4, 4096, 8, 128]⟩ ⟨4, ![4, 8192, 8, 128]⟩ (Layout.meshBlock [2, 2, 4] ![[], [0], [], []] c) X) (ix4 b (near_key c i) h d)
      = X (ix4 b (key c i) h d) := by
  rw [Layout.blockN_apply]
  refine congrArg X (funext fun t => Fin.ext ?_)
  rw [Layout.TilesN.idx_val]
  have hc : c.val < 16 := c.isLt
  match t with
  | ⟨0, _⟩ => show 0 * 4 + b.val = b.val; omega
  | ⟨1, _⟩ => show ((c.val / 8) % 2 * 1 + 0) * 4096 + (c.val % 8 * 512 + i.val) = c.val * 512 + i.val; omega
  | ⟨2, _⟩ => show 0 * 8 + h.val = h.val; omega
  | ⟨3, _⟩ => show 0 * 128 + d.val = d.val; omega

/-- Every key is one of a device's. -/
theorem exists_key (k : Fin 8192) : ∃ (c : Dev nD) (i : Fin 512), k = key c i :=
  ⟨(⟨k.val / 512, by have := k.isLt; omega⟩ : Fin 16), ⟨k.val % 512, by omega⟩, Fin.ext (Nat.div_add_mod' k.val 512).symm⟩

section Both
variable (X0 : (⟨4, ![4, 32, 8, 128]⟩ : Shape).Idx → EReal) (X1 X2 : (⟨4, ![4, 8192, 8, 128]⟩ : Shape).Idx → EReal)

/-- The arguments as real numbers. -/
def whole : Cert.ReferenceIdeal.Whole.Reals where
  q b q h d := (X0 (ix4 b q h d)).toReal
  k b k h d := (X1 (ix4 b k h d)).toReal
  v b k h d := (X2 (ix4 b k h d)).toReal

/-- The same, as the devices hold them. -/
def parts : Reals where
  q j q d := (X0 (ix4 (bat j) q (head j) d)).toReal
  k c j i d := (X1 (ix4 (bat j) (key c i) (head j) d)).toReal
  v c j i d := (X2 (ix4 (bat j) (key c i) (head j) d)).toReal

/-- What the claim supposes of the two programs' arguments. -/
structure Meet (m : (ℓ : Loc nD τ sig) → Buf (Elt Ideal) ℓ) : Prop where
  pre : Cert.Pre_KernelIdeal_finite_inputs_KernelIdeal m
  q : ∀ c : Dev nD, m ((c.tc : Thread nD τ).loc main_arg0) = X0
  k : ∀ c : Dev nD, m ((c.tc : Thread nD τ).loc main_arg1)
    = Layout.blockN ⟨4, ![4, 4096, 8, 128]⟩ ⟨4, ![4, 8192, 8, 128]⟩ (Layout.meshBlock [2, 2, 4] ![[], [0], [], []] c) X1
  v : ∀ c : Dev nD, m ((c.tc : Thread nD τ).loc main_arg2)
    = Layout.blockN ⟨4, ![4, 4096, 8, 128]⟩ ⟨4, ![4, 8192, 8, 128]⟩ (Layout.meshBlock [2, 2, 4] ![[], [0], [], []] c) X2

variable {X0 X1 X2}

theorem Meet.q_real (M : Meet X0 X1 X2 m) (i) : X0 i = ((X0 i).toReal : EReal) := by
  have h := (args_real M.pre (0 : Fin 16)).1 i
  rwa [M.q] at h

theorem Meet.k_real (M : Meet X0 X1 X2 m) (b : Fin 4) (k : Fin 8192) (h : Fin 8) (d : Fin 128) :
    X1 (ix4 b k h d) = ((X1 (ix4 b k h d)).toReal : EReal) := by
  obtain ⟨c, i, rfl⟩ := exists_key k
  have e := (args_real M.pre c).2.1 (ix4 b (near_key c i) h d)
  rwa [M.k, half_at] at e

theorem Meet.v_real (M : Meet X0 X1 X2 m) (b : Fin 4) (k : Fin 8192) (h : Fin 8) (d : Fin 128) :
    X2 (ix4 b k h d) = ((X2 (ix4 b k h d)).toReal : EReal) := by
  obtain ⟨c, i, rfl⟩ := exists_key k
  have e := (args_real M.pre c).2.2 (ix4 b (near_key c i) h d)
  rwa [M.v, half_at] at e

theorem Meet.whole (M : Meet X0 X1 X2 m) : (whole X0 X1 X2).Of X0 X1 X2 where
  q b q h d := M.q_real _
  k b k h d := M.k_real b k h d
  v b k h d := M.v_real b k h d

theorem Meet.parts (M : Meet X0 X1 X2 m) : (parts X0 X1 X2).Of (xin m) where
  q c j q d := by
    refine (q_at m c j q d).trans ((congrFun (M.q c) _).trans (M.q_real _))
  k c j i d := by
    rw [kblk_at]
    show V m c main_arg1 _ = _
    rw [V_main_arg1]
    exact ((congrFun (M.k c) _).trans (half_at X1 c _ i _ d)).trans (M.k_real _ _ _ _)
  v c j i d := by
    rw [vblk_at]
    show V m c main_arg2 _ = _
    rw [V_main_arg2]
    exact ((congrFun (M.v c) _).trans (half_at X2 c _ i _ d)).trans (M.v_real _ _ _ _)

/-- A query's scores, cut among the devices. -/
theorem s_key (b : Fin 4) (h : Fin 8) (q : Fin 32) (c : Dev nD) (i : Fin 512) :
    (parts X0 X1 X2).s (row b h) q c i = (whole X0 X1 X2).s b h q (key c i) := by
  show score _ _ = score _ _
  simp only [parts, whole, bat_row, head_row]

/-- And the values. -/
theorem v_key (b : Fin 4) (h : Fin 8) (c : Dev nD) (i : Fin 512) (d : Fin 128) :
    (parts X0 X1 X2).v c (row b h) i d = (whole X0 X1 X2).v b (key c i) h d := by
  simp only [parts, whole, bat_row, head_row]

/-- The devices' sums of weights make the whole one. -/
theorem sum_Z (b : Fin 4) (h : Fin 8) (q : Fin 32) : ∑ c, (parts X0 X1 X2).Z (row b h) q c = expSum ((whole X0 X1 X2).s b h q) :=
  (Finset.sum_congr rfl fun c _ => Finset.sum_congr rfl fun i _ => congrArg Real.exp (s_key b h q c i)).trans
    (sum_keys fun k => Real.exp ((whole X0 X1 X2).s b h q k))

/-- And so do their weighted sums of values. -/
theorem sum_N (b : Fin 4) (h : Fin 8) (q : Fin 32) (d : Fin 128) :
    ∑ c, (parts X0 X1 X2).N (row b h) q d c = expDot ((whole X0 X1 X2).s b h q) fun k => (whole X0 X1 X2).v b k h d :=
  (Finset.sum_congr rfl fun c _ => Finset.sum_congr rfl fun i _ => congrArg₂ (· * ·) (congrArg Real.exp (s_key b h q c i)) (v_key b h c i d)).trans
    (sum_keys fun k => Real.exp ((whole X0 X1 X2).s b h q k) * (whole X0 X1 X2).v b k h d)

/-- Every device's result is the reference's. -/
theorem Meet.result (M : Meet X0 X1 X2 m) (c : Dev nD) :
    Wn m c (Proc.devRef .tc main_v5) = Cert.ReferenceIdeal.Read.val_main_v15 (F := Ideal) X0 X1 X2 := by
  funext i
  obtain ⟨b, q, h, d, rfl⟩ : ∃ (b : Fin 4) (q : Fin 32) (h : Fin 8) (d : Fin 128), i = ix4 b q h d :=
    ⟨i 0, i 1, i 2, i 3, by funext t; match t with | ⟨0, _⟩ | ⟨1, _⟩ | ⟨2, _⟩ | ⟨3, _⟩ => rfl⟩
  refine (result_at m c b q h d).trans ((st_final M.parts c (row b h) q d).trans ?_)
  rw [sum_N, sum_Z]
  exact (Cert.ReferenceIdeal.Whole.v15_at M.whole b q h d).symm

end Both
end Cert.KernelIdeal.Flash

namespace Cert.Proof

open Idealize.ShloMosaic Idealize.ShloMosaic.TcCoe Idealize.SL.Sem
open Cert.KernelIdeal.Flash

/-- The kernel's one literal is its name's value, rounded. -/
theorem preserves : Cert.preserves_Kernel_KernelIdeal :=
  IdealRules.named_const.statement Cert.KernelIdeal.κ "inv_sqrt_d" .f32 0x3DB504F3#32 (((Real.sqrt 128)⁻¹ : ℝ) : EReal) rfl

/-- From finite arguments, every device of the kernel ends with the reference's result. -/
theorem algebraic : Cert.algebraic_KernelIdeal_ReferenceIdeal_pre_finite_inputs_KernelIdeal := by
  intro m g m' g' pre args
  have M : Meet _ _ _ m := ⟨pre, fun c => (args c).1, fun c => (args c).2.1, fun c => (args c).2.2⟩
  refine ⟨_, (θ_run Cert.KernelIdeal.defs _ _).mono (fun r h c => ⟨(h.1 c).1.trans (M.result c), (h.1 c).2⟩) (run_main m g), ?_⟩
  exact (θ_run Cert.ReferenceIdeal.defs _ _).mono
    (fun r h => ⟨(h 0).1.trans (Cert.ReferenceIdeal.Read.val_main_v15_eq _ _ _), (h 0).2⟩) (Cert.ReferenceIdeal.Value.run m' g')

end Cert.Proof

end
end
-- ==== Proof.lean ====
/- The proof of the certificate's claim: the frames of the kernel, of its idealization and of the reference, and the value claim, put together. -/
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_inputs_KernelIdeal
public import proofs.«01_k».proof.Proof.Gen.Pre_finite_inputs_ReferenceIdeal

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_finite_inputs_KernelIdeal.Gen.facts, Cert.Pre_finite_inputs_ReferenceIdeal.Gen.facts,
  frame_kernel, frame_ideal, fun m ρ _ => frame_ideal m ρ trivial, frame_ref, fun m ρ _ => frame_ref m ρ trivial, preserves, algebraic⟩

end Cert.Proof

end
